-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_averaging [hPre_averaging : Cert.Pre_averaging.Facts] (m : (ℓ : Loc Cert.KernelIdeal.nD Cert.KernelIdeal.τ Cert.KernelIdeal.sig) → Buf (Elt Ideal) ℓ) : Prop :=
  ∀ c : Dev Cert.KernelIdeal.nD,
    (Cert.Pre_averaging.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_averaging [hPre_averaging : Cert.Pre_averaging.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_averaging.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_averaging [hKernelIdeal : Cert.KernelIdeal.Facts] [hPre_averaging : Cert.Pre_averaging.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_averaging m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_averaging [hReferenceIdeal : Cert.ReferenceIdeal.Facts] [hPre_averaging : Cert.Pre_averaging.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_averaging m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_averaging [hKernelIdeal : Cert.KernelIdeal.Facts] [hReferenceIdeal : Cert.ReferenceIdeal.Facts] [hPre_averaging : Cert.Pre_averaging.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_averaging m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_averaging : Cert.Pre_averaging.Facts),
    quiescent_Kernel (hKernel := hKernel)
    ∧ quiescent_KernelIdeal (hKernelIdeal := hKernelIdeal)
    ∧ quiescent_KernelIdeal_pre_averaging (hKernelIdeal := hKernelIdeal) (hPre_averaging := hPre_averaging)
    ∧ quiescent_ReferenceIdeal (hReferenceIdeal := hReferenceIdeal)
    ∧ quiescent_ReferenceIdeal_pre_averaging (hReferenceIdeal := hReferenceIdeal) (hPre_averaging := hPre_averaging)
    ∧ preserves_Kernel_KernelIdeal
    ∧ algebraic_KernelIdeal_ReferenceIdeal_pre_averaging (hKernelIdeal := hKernelIdeal) (hReferenceIdeal := hReferenceIdeal) (hPre_averaging := hPre_averaging)
-- ==== Pre_averaging.lean ====
abbrev S16x3300 : Shape := ⟨2, ![16, 3300]⟩
abbrev S16x80x16 : Shape := ⟨3, ![16, 80, 16]⟩
abbrev S1x1x1x11 : Shape := ⟨4, ![1, 1, 1, 11]⟩
abbrev S1x1x1x23 : Shape := ⟨4, ![1, 1, 1, 23]⟩
abbrev S1536x592 : Shape := ⟨2, ![1536, 592]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S1x1x1x11 : S_.BroadcastsInDim S1x1x1x11 (![] : Fin 0 → Fin S1x1x1x11.rank)
  reducesTo_S1x1x1x11_S_d0_1_2_3 : S1x1x1x11.ReducesTo [0, 1, 2, 3] S_
  h_S_ : 0 < S_.numel
  bcast_S_S1x1x1x23 : S_.BroadcastsInDim S1x1x1x23 (![] : Fin 0 → Fin S1x1x1x23.rank)
  reducesTo_S1x1x1x23_S_d0_1_2_3 : S1x1x1x23.ReducesTo [0, 1, 2, 3] S_

variable [Facts]

def fn {F : FTy → Type} [FloatOps F] (main_arg0 : IVec S16x3300 32) (main_arg1 : FVec F S16x80x16 .f32) (main_arg2 : FVec F S1x1x1x11 .f32) (main_arg3 : FVec F S1x1x1x11 .f32) (main_arg4 : FVec F S1x1x1x23 .f32) (main_arg5 : FVec F S1536x592 .f32) (main_arg6 : FVec F S1536x512 .f32) (main_arg7 : FVec F S1536 .f32) (main_arg8 : FVec F S1536 .f32) (main_arg9 : FVec F S512x512 .f32) (main_arg10 : FVec F S512 .f32) (main_arg11 : FVec F S512x512 .f32) (main_arg12 : FVec F S512 .f32) : IVec S_ 1 :=
  let main_cst : FVec F S_ .f32 := constant S_ .f32 0x3DBA2E8C#32
  let main_v0 : FVec F S1x1x1x11 .f32 := broadcastInDim S1x1x1x11 ![] bcast_S_S1x1x1x11 main_cst
  let main_v1 : IVec S1x1x1x11 1 := cmpf .oeq main_arg2 main_v0
  let main_c : IVec S_ 1 := constantI S_ 1 1#1
  let main_v2 : IVec S_ 1 := (fun x v => Host.reduce IntOp.andi x v reducesTo_S1x1x1x11_S_d0_1_2_3 h_S_) main_v1 main_c
  let main_cst_0 : FVec F S_ .f32 := constant S_ .f32 0x3DBA2E8C#32
  let main_v3 : FVec F S1x1x1x11 .f32 := broadcastInDim S1x1x1x11 ![] bcast_S_S1x1x1x11 main_cst_0
  let main_v4 : IVec S1x1x1x11 1 := cmpf .oeq main_arg3 main_v3
  let main_c_1 : IVec S_ 1 := constantI S_ 1 1#1
  let main_v5 : IVec S_ 1 := (fun x v => Host.reduce IntOp.andi x v reducesTo_S1x1x1x11_S_d0_1_2_3 h_S_) main_v4 main_c_1
  let main_v6 : IVec S_ 1 := andi main_v2 main_v5
  let main_cst_2 : FVec F S_ .f32 := constant S_ .f32 0x3D321643#32
  let main_v7 : FVec F S1x1x1x23 .f32 := broadcastInDim S1x1x1x23 ![] bcast_S_S1x1x1x23 main_cst_2
  let main_v8 : IVec S1x1x1x23 1 := cmpf .oeq main_arg4 main_v7
  let main_c_3 : IVec S_ 1 := constantI S_ 1 1#1
  let main_v9 : IVec S_ 1 := (fun x v => Host.reduce IntOp.andi x v reducesTo_S1x1x1x23_S_d0_1_2_3 h_S_) main_v8 main_c_3
  let main_v10 : IVec S_ 1 := andi main_v6 main_v9
  main_v10
-- ==== Kernel.lean ====
abbrev S16x3300 : Shape := ⟨2, ![16, 3300]⟩
abbrev S16x80x16 : Shape := ⟨3, ![16, 80, 16]⟩
abbrev S1x1x1x11 : Shape := ⟨4, ![1, 1, 1, 11]⟩
abbrev S1x1x1x23 : Shape := ⟨4, ![1, 1, 1, 23]⟩
abbrev S1536x592 : Shape := ⟨2, ![1536, 592]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩
abbrev S3328x16 : Shape := ⟨2, ![3328, 16]⟩
abbrev S3300x16 : Shape := ⟨2, ![3300, 16]⟩
abbrev S1 : Shape := ⟨1, ![1]⟩
abbrev S16x16 : Shape := ⟨2, ![16, 16]⟩
abbrev S16x16x5 : Shape := ⟨3, ![16, 16, 5]⟩
abbrev S16x80 : Shape := ⟨2, ![16, 80]⟩
abbrev S16x90 : Shape := ⟨2, ![16, 90]⟩
abbrev S16x80x5 : Shape := ⟨3, ![16, 80, 5]⟩
abbrev S16x400 : Shape := ⟨2, ![16, 400]⟩
abbrev S16x410 : Shape := ⟨2, ![16, 410]⟩
abbrev S16x400x11 : Shape := ⟨3, ![16, 400, 11]⟩
abbrev S16x4400 : Shape := ⟨2, ![16, 4400]⟩
abbrev S16x4422 : Shape := ⟨2, ![16, 4422]⟩
abbrev S16x16x128 : Shape := ⟨3, ![16, 16, 128]⟩
abbrev S16x16x80 : Shape := ⟨3, ![16, 16, 80]⟩
abbrev S16x2048 : Shape := ⟨2, ![16, 2048]⟩
abbrev S512x1536 : Shape := ⟨2, ![512, 1536]⟩
abbrev S128x1536 : Shape := ⟨2, ![128, 1536]⟩
abbrev S1536x80 : Shape := ⟨2, ![1536, 80]⟩
abbrev S80x1536 : Shape := ⟨2, ![80, 1536]⟩
abbrev S1x1536 : Shape := ⟨2, ![1, 1536]⟩
abbrev S1x512 : Shape := ⟨2, ![1, 512]⟩
abbrev S3328x16x512 : Shape := ⟨3, ![3328, 16, 512]⟩
abbrev S128x16 : Shape := ⟨2, ![128, 16]⟩
abbrev S128x16x512 : Shape := ⟨3, ![128, 16, 512]⟩
abbrev S16x512 : Shape := ⟨2, ![16, 512]⟩
abbrev S128x16x1536 : Shape := ⟨3, ![128, 16, 1536]⟩
abbrev S128x16x1 : Shape := ⟨3, ![128, 16, 1]⟩
abbrev S2048x512 : Shape := ⟨2, ![2048, 512]⟩
abbrev S128x2048 : Shape := ⟨2, ![128, 2048]⟩
abbrev S2048x128 : Shape := ⟨2, ![2048, 128]⟩
abbrev S2048x1536 : Shape := ⟨2, ![2048, 1536]⟩
abbrev S1x16x1536 : Shape := ⟨3, ![1, 16, 1536]⟩
abbrev S16x1536 : Shape := ⟨2, ![16, 1536]⟩
abbrev S1x16x512 : Shape := ⟨3, ![1, 16, 512]⟩
abbrev S3328x8192 : Shape := ⟨2, ![3328, 8192]⟩
abbrev S16x3300x512 : Shape := ⟨3, ![16, 3300, 512]⟩
abbrev S3328x512 : Shape := ⟨2, ![3328, 512]⟩
abbrev S1x3300x512 : Shape := ⟨3, ![1, 3300, 512]⟩
abbrev S832x512 : Shape := ⟨2, ![832, 512]⟩
abbrev S1x832x512 : Shape := ⟨3, ![1, 832, 512]⟩
abbrev S804x512 : Shape := ⟨2, ![804, 512]⟩
abbrev S1x804x512 : Shape := ⟨3, ![1, 804, 512]⟩

abbrev nBuf : Space → Nat
  | .hbm => 179
  | .vmem => 22
  | .smem => 0
  | _ => 0

abbrev hbmTy0_0 (i : Nat) : BufTy := match i % 128 with
  | 0 => ⟨S16x3300, .i32⟩
  | 1 => ⟨S16x80x16, .f32⟩
  | 2 => ⟨S1x1x1x11, .f32⟩
  | 3 => ⟨S1x1x1x11, .f32⟩
  | 4 => ⟨S1x1x1x23, .f32⟩
  | 5 => ⟨S1536x592, .f32⟩
  | 6 => ⟨S1536x512, .f32⟩
  | 7 => ⟨S1536, .f32⟩
  | 8 => ⟨S1536, .f32⟩
  | 9 => ⟨S512x512, .f32⟩
  | 10 => ⟨S512, .f32⟩
  | 11 => ⟨S512x512, .f32⟩
  | 12 => ⟨S512, .f32⟩
  | 13 => ⟨S_, .i32⟩
  | 14 => ⟨S3328x16, .i32⟩
  | 15 => ⟨S3300x16, .i32⟩
  | 16 => ⟨S_, .i32⟩
  | 17 => ⟨S1, .i32⟩
  | 18 => ⟨S3328x16, .i32⟩
  | 19 => ⟨S16x16, .i32⟩
  | 20 => ⟨S16x16, .i32⟩
  | 21 => ⟨S_, .i32⟩
  | 22 => ⟨S16x16, .i32⟩
  | 23 => ⟨S16x16, .i32⟩
  | 24 => ⟨S16x16, .i1⟩
  | 25 => ⟨S16x16, .f32⟩
  | 26 => ⟨S16x16x5, .f32⟩
  | 27 => ⟨S16x80, .f32⟩
  | 28 => ⟨S_, .i32⟩
  | 29 => ⟨S_, .f32⟩
  | 30 => ⟨S16x90, .f32⟩
  | 31 => ⟨S16x80, .f32⟩
  | 32 => ⟨S_, .f32⟩
  | 33 => ⟨S16x80, .f32⟩
  | 34 => ⟨S16x80, .f32⟩
  | 35 => ⟨S16x80, .f32⟩
  | 36 => ⟨S16x80, .f32⟩
  | 37 => ⟨S16x80, .f32⟩
  | 38 => ⟨S16x80, .f32⟩
  | 39 => ⟨S16x80, .f32⟩
  | 40 => ⟨S16x80, .f32⟩
  | 41 => ⟨S16x80, .f32⟩
  | 42 => ⟨S16x80, .f32⟩
  | 43 => ⟨S16x80, .f32⟩
  | 44 => ⟨S16x80, .f32⟩
  | 45 => ⟨S16x80, .f32⟩
  | 46 => ⟨S16x80, .f32⟩
  | 47 => ⟨S16x80, .f32⟩
  | 48 => ⟨S16x80, .f32⟩
  | 49 => ⟨S16x80, .f32⟩
  | 50 => ⟨S16x80, .f32⟩
  | 51 => ⟨S16x80, .f32⟩
  | 52 => ⟨S16x80, .f32⟩
  | 53 => ⟨S16x80, .f32⟩
  | 54 => ⟨S16x80, .f32⟩
  | 55 => ⟨S_, .f32⟩
  | 56 => ⟨S16x80, .f32⟩
  | 57 => ⟨S16x80, .f32⟩
  | 58 => ⟨S16x80x5, .f32⟩
  | 59 => ⟨S16x400, .f32⟩
  | 60 => ⟨S_, .i32⟩
  | 61 => ⟨S_, .f32⟩
  | 62 => ⟨S16x410, .f32⟩
  | 63 => ⟨S16x400, .f32⟩
  | 64 => ⟨S_, .f32⟩
  | 65 => ⟨S16x400, .f32⟩
  | 66 => ⟨S16x400, .f32⟩
  | 67 => ⟨S16x400, .f32⟩
  | 68 => ⟨S16x400, .f32⟩
  | 69 => ⟨S16x400, .f32⟩
  | 70 => ⟨S16x400, .f32⟩
  | 71 => ⟨S16x400, .f32⟩
  | 72 => ⟨S16x400, .f32⟩
  | 73 => ⟨S16x400, .f32⟩
  | 74 => ⟨S16x400, .f32⟩
  | 75 => ⟨S16x400, .f32⟩
  | 76 => ⟨S16x400, .f32⟩
  | 77 => ⟨S16x400, .f32⟩
  | 78 => ⟨S16x400, .f32⟩
  | 79 => ⟨S16x400, .f32⟩
  | 80 => ⟨S16x400, .f32⟩
  | 81 => ⟨S16x400, .f32⟩
  | 82 => ⟨S16x400, .f32⟩
  | 83 => ⟨S16x400, .f32⟩
  | 84 => ⟨S16x400, .f32⟩
  | 85 => ⟨S16x400, .f32⟩
  | 86 => ⟨S16x400, .f32⟩
  | 87 => ⟨S_, .f32⟩
  | 88 => ⟨S16x400, .f32⟩
  | 89 => ⟨S16x400, .f32⟩
  | 90 => ⟨S16x400x11, .f32⟩
  | 91 => ⟨S16x4400, .f32⟩
  | 92 => ⟨S_, .i32⟩
  | 93 => ⟨S_, .f32⟩
  | 94 => ⟨S16x4422, .f32⟩
  | 95 => ⟨S16x4400, .f32⟩
  | 96 => ⟨S_, .f32⟩
  | 97 => ⟨S16x4400, .f32⟩
  | 98 => ⟨S16x4400, .f32⟩
  | 99 => ⟨S16x4400, .f32⟩
  | 100 => ⟨S16x4400, .f32⟩
  | 101 => ⟨S16x4400, .f32⟩
  | 102 => ⟨S16x4400, .f32⟩
  | 103 => ⟨S16x4400, .f32⟩
  | 104 => ⟨S16x4400, .f32⟩
  | 105 => ⟨S16x4400, .f32⟩
  | 106 => ⟨S16x4400, .f32⟩
  | 107 => ⟨S16x4400, .f32⟩
  | 108 => ⟨S16x4400, .f32⟩
  | 109 => ⟨S16x4400, .f32⟩
  | 110 => ⟨S16x4400, .f32⟩
  | 111 => ⟨S16x4400, .f32⟩
  | 112 => ⟨S16x4400, .f32⟩
  | 113 => ⟨S16x4400, .f32⟩
  | 114 => ⟨S16x4400, .f32⟩
  | 115 => ⟨S16x4400, .f32⟩
  | 116 => ⟨S16x4400, .f32⟩
  | 117 => ⟨S16x4400, .f32⟩
  | 118 => ⟨S16x4400, .f32⟩
  | 119 => ⟨S16x4400, .f32⟩
  | 120 => ⟨S16x4400, .f32⟩
  | 121 => ⟨S16x4400, .f32⟩
  | 122 => ⟨S16x4400, .f32⟩
  | 123 => ⟨S16x4400, .f32⟩
  | 124 => ⟨S16x4400, .f32⟩
  | 125 => ⟨S16x4400, .f32⟩
  | 126 => ⟨S16x4400, .f32⟩
  | 127 => ⟨S16x4400, .f32⟩
  | _ => ⟨S16x3300, .i32⟩

abbrev hbmTy0_1 (i : Nat) : BufTy := match i % 128 with
  | 0 => ⟨S16x4400, .f32⟩
  | 1 => ⟨S16x4400, .f32⟩
  | 2 => ⟨S16x4400, .f32⟩
  | 3 => ⟨S16x4400, .f32⟩
  | 4 => ⟨S16x4400, .f32⟩
  | 5 => ⟨S16x4400, .f32⟩
  | 6 => ⟨S16x4400, .f32⟩
  | 7 => ⟨S16x4400, .f32⟩
  | 8 => ⟨S16x4400, .f32⟩
  | 9 => ⟨S16x4400, .f32⟩
  | 10 => ⟨S16x4400, .f32⟩
  | 11 => ⟨S16x4400, .f32⟩
  | 12 => ⟨S16x4400, .f32⟩
  | 13 => ⟨S16x4400, .f32⟩
  | 14 => ⟨S16x4400, .f32⟩
  | 15 => ⟨S_, .f32⟩
  | 16 => ⟨S16x4400, .f32⟩
  | 17 => ⟨S16x4400, .f32⟩
  | 18 => ⟨S16x3300, .f32⟩
  | 19 => ⟨S_, .f32⟩
  | 20 => ⟨S3328x16, .f32⟩
  | 21 => ⟨S3300x16, .f32⟩
  | 22 => ⟨S_, .i32⟩
  | 23 => ⟨S1, .i32⟩
  | 24 => ⟨S3328x16, .f32⟩
  | 25 => ⟨S_, .f32⟩
  | 26 => ⟨S16x16x128, .f32⟩
  | 27 => ⟨S16x16x80, .f32⟩
  | 28 => ⟨S_, .i32⟩
  | 29 => ⟨S1, .i32⟩
  | 30 => ⟨S16x16x128, .f32⟩
  | 31 => ⟨S16x2048, .f32⟩
  | 32 => ⟨S1536x512, .f32⟩
  | 33 => ⟨S512x1536, .f32⟩
  | 34 => ⟨S_, .f32⟩
  | 35 => ⟨S128x1536, .f32⟩
  | 36 => ⟨S1536x80, .f32⟩
  | 37 => ⟨S80x1536, .f32⟩
  | 38 => ⟨S_, .i32⟩
  | 39 => ⟨S1, .i32⟩
  | 40 => ⟨S128x1536, .f32⟩
  | 41 => ⟨S512x1536, .f32⟩
  | 42 => ⟨S1x1536, .f32⟩
  | 43 => ⟨S1x1536, .f32⟩
  | 44 => ⟨S512x512, .f32⟩
  | 45 => ⟨S512x512, .f32⟩
  | 46 => ⟨S1x512, .f32⟩
  | 47 => ⟨S1x512, .f32⟩
  | 48 => ⟨S3328x16x512, .f32⟩
  | 49 => ⟨S3328x8192, .f32⟩
  | 50 => ⟨S16x3300x512, .f32⟩
  | _ => ⟨S16x3300, .i32⟩

abbrev hbmTy (i : Nat) : BufTy := match i / 128 with
  | 0 => hbmTy0_0 i
  | 1 => hbmTy0_1 i
  | _ => ⟨S16x3300, .i32⟩

abbrev bufTy : (tb : Table) → Fin (tcTables nBuf tb) → BufTy
  | .hbm, ⟨i, _⟩ => hbmTy i
  | .local _ .vmem, ⟨0, _⟩ => ⟨S128x16, .i32⟩
  | .local _ .vmem, ⟨1, _⟩ => ⟨S128x16, .i32⟩
  | .local _ .vmem, ⟨2, _⟩ => ⟨S128x16, .f32⟩
  | .local _ .vmem, ⟨3, _⟩ => ⟨S128x16, .f32⟩
  | .local _ .vmem, ⟨4, _⟩ => ⟨S16x2048, .f32⟩
  | .local _ .vmem, ⟨5, _⟩ => ⟨S512x1536, .f32⟩
  | .local _ .vmem, ⟨6, _⟩ => ⟨S128x1536, .f32⟩
  | .local _ .vmem, ⟨7, _⟩ => ⟨S1x1536, .f32⟩
  | .local _ .vmem, ⟨8, _⟩ => ⟨S512x1536, .f32⟩
  | .local _ .vmem, ⟨9, _⟩ => ⟨S1x1536, .f32⟩
  | .local _ .vmem, ⟨10, _⟩ => ⟨S128x16x512, .f32⟩
  | .local _ .vmem, ⟨11, _⟩ => ⟨S128x16x512, .f32⟩
  | .local _ .vmem, ⟨12, _⟩ => ⟨S16x512, .f32⟩
  | .local _ .vmem, ⟨13, _⟩ => ⟨S128x16x1536, .f32⟩
  | .local _ .vmem, ⟨14, _⟩ => ⟨S3328x512, .f32⟩
  | .local _ .vmem, ⟨15, _⟩ => ⟨S3328x512, .f32⟩
  | .local _ .vmem, ⟨16, _⟩ => ⟨S512x512, .f32⟩
  | .local _ .vmem, ⟨17, _⟩ => ⟨S1x512, .f32⟩
  | .local _ .vmem, ⟨18, _⟩ => ⟨S512x512, .f32⟩
  | .local _ .vmem, ⟨19, _⟩ => ⟨S1x512, .f32⟩
  | .local _ .vmem, ⟨20, _⟩ => ⟨S1x3300x512, .f32⟩
  | .local _ .vmem, ⟨21, _⟩ => ⟨S1x3300x512, .f32⟩
  | _, _ => ⟨S16x3300, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_call0_v0 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_call1_v0 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_6 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_7 : Ref sig .tc := ⟨.hbm, 92, rfl⟩
abbrev main_call2_v0 : Ref sig .tc := ⟨.hbm, 93, rfl⟩
abbrev main_v68 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_9 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_10 : Ref sig .tc := ⟨.hbm, 147, rfl⟩
abbrev main_v119 : Ref sig .tc := ⟨.hbm, 148, rfl⟩
abbrev main_v120 : Ref sig .tc := ⟨.hbm, 149, rfl⟩
abbrev main_c_11 : Ref sig .tc := ⟨.hbm, 150, rfl⟩
abbrev main_v121 : Ref sig .tc := ⟨.hbm, 151, rfl⟩
abbrev main_v122 : Ref sig .tc := ⟨.hbm, 152, rfl⟩
abbrev main_cst_12 : Ref sig .tc := ⟨.hbm, 153, rfl⟩
abbrev main_v123 : Ref sig .tc := ⟨.hbm, 154, rfl⟩
abbrev main_v124 : Ref sig .tc := ⟨.hbm, 155, rfl⟩
abbrev main_c_13 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_14 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_c_15 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![26], ![false]⟩

@[reducible] def k0_t1_loop : Scf.Loop 32 :=
  let c0_i32_23 : BitVec 32 := 0#32
  let c128_i32 : BitVec 32 := 128#32
  let v38 : BitVec 32 := Scalar.addi c0_i32_23 c128_i32
  let c1_i32 : BitVec 32 := 1#32
  ⟨c0_i32_23, v38, c1_i32⟩
def k0_off1 (k0_t1 : Fin k0_t1_loop.trips) : Fin 3 → Nat :=
  let c0_i32_23 : BitVec 32 := 0#32
  let c1_i32 : BitVec 32 := 1#32
  let arg12 : BitVec 32 := Scf.iv c0_i32_23 c1_i32 k0_t1
  let v43 : Index := Scalar.indexCast arg12
  let c0_27 : Index := 0#32
  let c0_28 : Index := 0#32
  ![v43.toNat, 0, 0]
def k0_off2 (k0_t1 : Fin k0_t1_loop.trips) : Fin 3 → Nat :=
  let c0_i32_23 : BitVec 32 := 0#32
  let c1_i32 : BitVec 32 := 1#32
  let arg12 : BitVec 32 := Scf.iv c0_i32_23 c1_i32 k0_t1
  let v67 : Index := Scalar.indexCast arg12
  let c0_31 : Index := 0#32
  let c0_32 : Index := 0#32
  ![v67.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S3328x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x3300x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S16x3300 : Shape := ⟨2, ![16, 3300]⟩
abbrev S16x80x16 : Shape := ⟨3, ![16, 80, 16]⟩
abbrev S1x1x1x11 : Shape := ⟨4, ![1, 1, 1, 11]⟩
abbrev S1x1x1x23 : Shape := ⟨4, ![1, 1, 1, 23]⟩
abbrev S1536x592 : Shape := ⟨2, ![1536, 592]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S16x3300x1 : Shape := ⟨3, ![16, 3300, 1]⟩
abbrev S1x1x512 : Shape := ⟨3, ![1, 1, 512]⟩
abbrev S16x3300x512 : Shape := ⟨3, ![16, 3300, 512]⟩
abbrev S16x80x16x5 : Shape := ⟨4, ![16, 80, 16, 5]⟩
abbrev S16x80x80 : Shape := ⟨3, ![16, 80, 80]⟩
abbrev S_ : Shape := ⟨0, ![]⟩
abbrev S16x80x90 : Shape := ⟨3, ![16, 80, 90]⟩
abbrev S1x1x1x1 : Shape := ⟨4, ![1, 1, 1, 1]⟩
abbrev S16x80x80x5 : Shape := ⟨4, ![16, 80, 80, 5]⟩
abbrev S16x80x400 : Shape := ⟨3, ![16, 80, 400]⟩
abbrev S16x80x410 : Shape := ⟨3, ![16, 80, 410]⟩
abbrev S16x80x400x11 : Shape := ⟨4, ![16, 80, 400, 11]⟩
abbrev S16x80x4400 : Shape := ⟨3, ![16, 80, 4400]⟩
abbrev S16x80x4422 : Shape := ⟨3, ![16, 80, 4422]⟩
abbrev S16x80x3300 : Shape := ⟨3, ![16, 80, 3300]⟩
abbrev S16x3300x80 : Shape := ⟨3, ![16, 3300, 80]⟩
abbrev S16x3300x592 : Shape := ⟨3, ![16, 3300, 592]⟩
abbrev S16x3300x1536 : Shape := ⟨3, ![16, 3300, 1536]⟩
abbrev S1x1x1536 : Shape := ⟨3, ![1, 1, 1536]⟩
abbrev S16x512 : Shape := ⟨2, ![16, 512]⟩
abbrev S3300x16x1536 : Shape := ⟨3, ![3300, 16, 1536]⟩
abbrev S3300x16x512 : Shape := ⟨3, ![3300, 16, 512]⟩
abbrev S1x16x1536 : Shape := ⟨3, ![1, 16, 1536]⟩
abbrev S16x1536 : Shape := ⟨2, ![16, 1536]⟩
abbrev S512x1536 : Shape := ⟨2, ![512, 1536]⟩
abbrev S1x1536 : Shape := ⟨2, ![1, 1536]⟩
abbrev S1x16x512 : Shape := ⟨3, ![1, 16, 512]⟩

abbrev nBuf : Space → Nat
  | .hbm => 391
  | .vmem => 0
  | .smem => 0
  | _ => 0

abbrev hbmTy0_0 (i : Nat) : BufTy := match i % 128 with
  | 0 => ⟨S16x3300, .i32⟩
  | 1 => ⟨S16x80x16, .f32⟩
  | 2 => ⟨S1x1x1x11, .f32⟩
  | 3 => ⟨S1x1x1x11, .f32⟩
  | 4 => ⟨S1x1x1x23, .f32⟩
  | 5 => ⟨S1536x592, .f32⟩
  | 6 => ⟨S1536x512, .f32⟩
  | 7 => ⟨S1536, .f32⟩
  | 8 => ⟨S1536, .f32⟩
  | 9 => ⟨S512x512, .f32⟩
  | 10 => ⟨S512, .f32⟩
  | 11 => ⟨S512x512, .f32⟩
  | 12 => ⟨S512, .f32⟩
  | 13 => ⟨S16x3300x1, .i32⟩
  | 14 => ⟨S1x1x512, .i32⟩
  | 15 => ⟨S16x3300x512, .i32⟩
  | 16 => ⟨S16x3300x512, .i32⟩
  | 17 => ⟨S16x3300x512, .i1⟩
  | 18 => ⟨S16x3300x512, .f32⟩
  | 19 => ⟨S16x80x16x5, .f32⟩
  | 20 => ⟨S16x80x80, .f32⟩
  | 21 => ⟨S_, .i32⟩
  | 22 => ⟨S_, .f32⟩
  | 23 => ⟨S16x80x90, .f32⟩
  | 24 => ⟨S16x80x80, .f32⟩
  | 25 => ⟨S1x1x1x1, .f32⟩
  | 26 => ⟨S_, .f32⟩
  | 27 => ⟨S16x80x80, .f32⟩
  | 28 => ⟨S16x80x80, .f32⟩
  | 29 => ⟨S_, .f32⟩
  | 30 => ⟨S16x80x80, .f32⟩
  | 31 => ⟨S16x80x80, .f32⟩
  | 32 => ⟨S16x80x80, .f32⟩
  | 33 => ⟨S1x1x1x1, .f32⟩
  | 34 => ⟨S_, .f32⟩
  | 35 => ⟨S16x80x80, .f32⟩
  | 36 => ⟨S16x80x80, .f32⟩
  | 37 => ⟨S16x80x80, .f32⟩
  | 38 => ⟨S16x80x80, .f32⟩
  | 39 => ⟨S1x1x1x1, .f32⟩
  | 40 => ⟨S_, .f32⟩
  | 41 => ⟨S16x80x80, .f32⟩
  | 42 => ⟨S16x80x80, .f32⟩
  | 43 => ⟨S16x80x80, .f32⟩
  | 44 => ⟨S16x80x80, .f32⟩
  | 45 => ⟨S1x1x1x1, .f32⟩
  | 46 => ⟨S_, .f32⟩
  | 47 => ⟨S16x80x80, .f32⟩
  | 48 => ⟨S16x80x80, .f32⟩
  | 49 => ⟨S16x80x80, .f32⟩
  | 50 => ⟨S16x80x80, .f32⟩
  | 51 => ⟨S1x1x1x1, .f32⟩
  | 52 => ⟨S_, .f32⟩
  | 53 => ⟨S16x80x80, .f32⟩
  | 54 => ⟨S16x80x80, .f32⟩
  | 55 => ⟨S16x80x80, .f32⟩
  | 56 => ⟨S16x80x80, .f32⟩
  | 57 => ⟨S1x1x1x1, .f32⟩
  | 58 => ⟨S_, .f32⟩
  | 59 => ⟨S16x80x80, .f32⟩
  | 60 => ⟨S16x80x80, .f32⟩
  | 61 => ⟨S16x80x80, .f32⟩
  | 62 => ⟨S16x80x80, .f32⟩
  | 63 => ⟨S1x1x1x1, .f32⟩
  | 64 => ⟨S_, .f32⟩
  | 65 => ⟨S16x80x80, .f32⟩
  | 66 => ⟨S16x80x80, .f32⟩
  | 67 => ⟨S16x80x80, .f32⟩
  | 68 => ⟨S16x80x80, .f32⟩
  | 69 => ⟨S1x1x1x1, .f32⟩
  | 70 => ⟨S_, .f32⟩
  | 71 => ⟨S16x80x80, .f32⟩
  | 72 => ⟨S16x80x80, .f32⟩
  | 73 => ⟨S16x80x80, .f32⟩
  | 74 => ⟨S16x80x80, .f32⟩
  | 75 => ⟨S1x1x1x1, .f32⟩
  | 76 => ⟨S_, .f32⟩
  | 77 => ⟨S16x80x80, .f32⟩
  | 78 => ⟨S16x80x80, .f32⟩
  | 79 => ⟨S16x80x80, .f32⟩
  | 80 => ⟨S16x80x80, .f32⟩
  | 81 => ⟨S1x1x1x1, .f32⟩
  | 82 => ⟨S_, .f32⟩
  | 83 => ⟨S16x80x80, .f32⟩
  | 84 => ⟨S16x80x80, .f32⟩
  | 85 => ⟨S16x80x80, .f32⟩
  | 86 => ⟨S16x80x80, .f32⟩
  | 87 => ⟨S1x1x1x1, .f32⟩
  | 88 => ⟨S_, .f32⟩
  | 89 => ⟨S16x80x80, .f32⟩
  | 90 => ⟨S16x80x80, .f32⟩
  | 91 => ⟨S16x80x80, .f32⟩
  | 92 => ⟨S16x80x80x5, .f32⟩
  | 93 => ⟨S16x80x400, .f32⟩
  | 94 => ⟨S_, .i32⟩
  | 95 => ⟨S_, .f32⟩
  | 96 => ⟨S16x80x410, .f32⟩
  | 97 => ⟨S16x80x400, .f32⟩
  | 98 => ⟨S1x1x1x1, .f32⟩
  | 99 => ⟨S_, .f32⟩
  | 100 => ⟨S16x80x400, .f32⟩
  | 101 => ⟨S16x80x400, .f32⟩
  | 102 => ⟨S_, .f32⟩
  | 103 => ⟨S16x80x400, .f32⟩
  | 104 => ⟨S16x80x400, .f32⟩
  | 105 => ⟨S16x80x400, .f32⟩
  | 106 => ⟨S1x1x1x1, .f32⟩
  | 107 => ⟨S_, .f32⟩
  | 108 => ⟨S16x80x400, .f32⟩
  | 109 => ⟨S16x80x400, .f32⟩
  | 110 => ⟨S16x80x400, .f32⟩
  | 111 => ⟨S16x80x400, .f32⟩
  | 112 => ⟨S1x1x1x1, .f32⟩
  | 113 => ⟨S_, .f32⟩
  | 114 => ⟨S16x80x400, .f32⟩
  | 115 => ⟨S16x80x400, .f32⟩
  | 116 => ⟨S16x80x400, .f32⟩
  | 117 => ⟨S16x80x400, .f32⟩
  | 118 => ⟨S1x1x1x1, .f32⟩
  | 119 => ⟨S_, .f32⟩
  | 120 => ⟨S16x80x400, .f32⟩
  | 121 => ⟨S16x80x400, .f32⟩
  | 122 => ⟨S16x80x400, .f32⟩
  | 123 => ⟨S16x80x400, .f32⟩
  | 124 => ⟨S1x1x1x1, .f32⟩
  | 125 => ⟨S_, .f32⟩
  | 126 => ⟨S16x80x400, .f32⟩
  | 127 => ⟨S16x80x400, .f32⟩
  | _ => ⟨S16x3300, .i32⟩

abbrev hbmTy0_1 (i : Nat) : BufTy := match i % 128 with
  | 0 => ⟨S16x80x400, .f32⟩
  | 1 => ⟨S16x80x400, .f32⟩
  | 2 => ⟨S1x1x1x1, .f32⟩
  | 3 => ⟨S_, .f32⟩
  | 4 => ⟨S16x80x400, .f32⟩
  | 5 => ⟨S16x80x400, .f32⟩
  | 6 => ⟨S16x80x400, .f32⟩
  | 7 => ⟨S16x80x400, .f32⟩
  | 8 => ⟨S1x1x1x1, .f32⟩
  | 9 => ⟨S_, .f32⟩
  | 10 => ⟨S16x80x400, .f32⟩
  | 11 => ⟨S16x80x400, .f32⟩
  | 12 => ⟨S16x80x400, .f32⟩
  | 13 => ⟨S16x80x400, .f32⟩
  | 14 => ⟨S1x1x1x1, .f32⟩
  | 15 => ⟨S_, .f32⟩
  | 16 => ⟨S16x80x400, .f32⟩
  | 17 => ⟨S16x80x400, .f32⟩
  | 18 => ⟨S16x80x400, .f32⟩
  | 19 => ⟨S16x80x400, .f32⟩
  | 20 => ⟨S1x1x1x1, .f32⟩
  | 21 => ⟨S_, .f32⟩
  | 22 => ⟨S16x80x400, .f32⟩
  | 23 => ⟨S16x80x400, .f32⟩
  | 24 => ⟨S16x80x400, .f32⟩
  | 25 => ⟨S16x80x400, .f32⟩
  | 26 => ⟨S1x1x1x1, .f32⟩
  | 27 => ⟨S_, .f32⟩
  | 28 => ⟨S16x80x400, .f32⟩
  | 29 => ⟨S16x80x400, .f32⟩
  | 30 => ⟨S16x80x400, .f32⟩
  | 31 => ⟨S16x80x400, .f32⟩
  | 32 => ⟨S1x1x1x1, .f32⟩
  | 33 => ⟨S_, .f32⟩
  | 34 => ⟨S16x80x400, .f32⟩
  | 35 => ⟨S16x80x400, .f32⟩
  | 36 => ⟨S16x80x400, .f32⟩
  | 37 => ⟨S16x80x400x11, .f32⟩
  | 38 => ⟨S16x80x4400, .f32⟩
  | 39 => ⟨S_, .i32⟩
  | 40 => ⟨S_, .f32⟩
  | 41 => ⟨S16x80x4422, .f32⟩
  | 42 => ⟨S16x80x4400, .f32⟩
  | 43 => ⟨S1x1x1x1, .f32⟩
  | 44 => ⟨S_, .f32⟩
  | 45 => ⟨S16x80x4400, .f32⟩
  | 46 => ⟨S16x80x4400, .f32⟩
  | 47 => ⟨S_, .f32⟩
  | 48 => ⟨S16x80x4400, .f32⟩
  | 49 => ⟨S16x80x4400, .f32⟩
  | 50 => ⟨S16x80x4400, .f32⟩
  | 51 => ⟨S1x1x1x1, .f32⟩
  | 52 => ⟨S_, .f32⟩
  | 53 => ⟨S16x80x4400, .f32⟩
  | 54 => ⟨S16x80x4400, .f32⟩
  | 55 => ⟨S16x80x4400, .f32⟩
  | 56 => ⟨S16x80x4400, .f32⟩
  | 57 => ⟨S1x1x1x1, .f32⟩
  | 58 => ⟨S_, .f32⟩
  | 59 => ⟨S16x80x4400, .f32⟩
  | 60 => ⟨S16x80x4400, .f32⟩
  | 61 => ⟨S16x80x4400, .f32⟩
  | 62 => ⟨S16x80x4400, .f32⟩
  | 63 => ⟨S1x1x1x1, .f32⟩
  | 64 => ⟨S_, .f32⟩
  | 65 => ⟨S16x80x4400, .f32⟩
  | 66 => ⟨S16x80x4400, .f32⟩
  | 67 => ⟨S16x80x4400, .f32⟩
  | 68 => ⟨S16x80x4400, .f32⟩
  | 69 => ⟨S1x1x1x1, .f32⟩
  | 70 => ⟨S_, .f32⟩
  | 71 => ⟨S16x80x4400, .f32⟩
  | 72 => ⟨S16x80x4400, .f32⟩
  | 73 => ⟨S16x80x4400, .f32⟩
  | 74 => ⟨S16x80x4400, .f32⟩
  | 75 => ⟨S1x1x1x1, .f32⟩
  | 76 => ⟨S_, .f32⟩
  | 77 => ⟨S16x80x4400, .f32⟩
  | 78 => ⟨S16x80x4400, .f32⟩
  | 79 => ⟨S16x80x4400, .f32⟩
  | 80 => ⟨S16x80x4400, .f32⟩
  | 81 => ⟨S1x1x1x1, .f32⟩
  | 82 => ⟨S_, .f32⟩
  | 83 => ⟨S16x80x4400, .f32⟩
  | 84 => ⟨S16x80x4400, .f32⟩
  | 85 => ⟨S16x80x4400, .f32⟩
  | 86 => ⟨S16x80x4400, .f32⟩
  | 87 => ⟨S1x1x1x1, .f32⟩
  | 88 => ⟨S_, .f32⟩
  | 89 => ⟨S16x80x4400, .f32⟩
  | 90 => ⟨S16x80x4400, .f32⟩
  | 91 => ⟨S16x80x4400, .f32⟩
  | 92 => ⟨S16x80x4400, .f32⟩
  | 93 => ⟨S1x1x1x1, .f32⟩
  | 94 => ⟨S_, .f32⟩
  | 95 => ⟨S16x80x4400, .f32⟩
  | 96 => ⟨S16x80x4400, .f32⟩
  | 97 => ⟨S16x80x4400, .f32⟩
  | 98 => ⟨S16x80x4400, .f32⟩
  | 99 => ⟨S1x1x1x1, .f32⟩
  | 100 => ⟨S_, .f32⟩
  | 101 => ⟨S16x80x4400, .f32⟩
  | 102 => ⟨S16x80x4400, .f32⟩
  | 103 => ⟨S16x80x4400, .f32⟩
  | 104 => ⟨S16x80x4400, .f32⟩
  | 105 => ⟨S1x1x1x1, .f32⟩
  | 106 => ⟨S_, .f32⟩
  | 107 => ⟨S16x80x4400, .f32⟩
  | 108 => ⟨S16x80x4400, .f32⟩
  | 109 => ⟨S16x80x4400, .f32⟩
  | 110 => ⟨S16x80x4400, .f32⟩
  | 111 => ⟨S1x1x1x1, .f32⟩
  | 112 => ⟨S_, .f32⟩
  | 113 => ⟨S16x80x4400, .f32⟩
  | 114 => ⟨S16x80x4400, .f32⟩
  | 115 => ⟨S16x80x4400, .f32⟩
  | 116 => ⟨S16x80x4400, .f32⟩
  | 117 => ⟨S1x1x1x1, .f32⟩
  | 118 => ⟨S_, .f32⟩
  | 119 => ⟨S16x80x4400, .f32⟩
  | 120 => ⟨S16x80x4400, .f32⟩
  | 121 => ⟨S16x80x4400, .f32⟩
  | 122 => ⟨S16x80x4400, .f32⟩
  | 123 => ⟨S1x1x1x1, .f32⟩
  | 124 => ⟨S_, .f32⟩
  | 125 => ⟨S16x80x4400, .f32⟩
  | 126 => ⟨S16x80x4400, .f32⟩
  | 127 => ⟨S16x80x4400, .f32⟩
  | _ => ⟨S16x3300, .i32⟩

abbrev hbmTy0_2 (i : Nat) : BufTy := match i % 128 with
  | 0 => ⟨S16x80x4400, .f32⟩
  | 1 => ⟨S1x1x1x1, .f32⟩
  | 2 => ⟨S_, .f32⟩
  | 3 => ⟨S16x80x4400, .f32⟩
  | 4 => ⟨S16x80x4400, .f32⟩
  | 5 => ⟨S16x80x4400, .f32⟩
  | 6 => ⟨S16x80x4400, .f32⟩
  | 7 => ⟨S1x1x1x1, .f32⟩
  | 8 => ⟨S_, .f32⟩
  | 9 => ⟨S16x80x4400, .f32⟩
  | 10 => ⟨S16x80x4400, .f32⟩
  | 11 => ⟨S16x80x4400, .f32⟩
  | 12 => ⟨S16x80x4400, .f32⟩
  | 13 => ⟨S1x1x1x1, .f32⟩
  | 14 => ⟨S_, .f32⟩
  | 15 => ⟨S16x80x4400, .f32⟩
  | 16 => ⟨S16x80x4400, .f32⟩
  | 17 => ⟨S16x80x4400, .f32⟩
  | 18 => ⟨S16x80x4400, .f32⟩
  | 19 => ⟨S1x1x1x1, .f32⟩
  | 20 => ⟨S_, .f32⟩
  | 21 => ⟨S16x80x4400, .f32⟩
  | 22 => ⟨S16x80x4400, .f32⟩
  | 23 => ⟨S16x80x4400, .f32⟩
  | 24 => ⟨S16x80x4400, .f32⟩
  | 25 => ⟨S1x1x1x1, .f32⟩
  | 26 => ⟨S_, .f32⟩
  | 27 => ⟨S16x80x4400, .f32⟩
  | 28 => ⟨S16x80x4400, .f32⟩
  | 29 => ⟨S16x80x4400, .f32⟩
  | 30 => ⟨S16x80x4400, .f32⟩
  | 31 => ⟨S1x1x1x1, .f32⟩
  | 32 => ⟨S_, .f32⟩
  | 33 => ⟨S16x80x4400, .f32⟩
  | 34 => ⟨S16x80x4400, .f32⟩
  | 35 => ⟨S16x80x4400, .f32⟩
  | 36 => ⟨S16x80x4400, .f32⟩
  | 37 => ⟨S1x1x1x1, .f32⟩
  | 38 => ⟨S_, .f32⟩
  | 39 => ⟨S16x80x4400, .f32⟩
  | 40 => ⟨S16x80x4400, .f32⟩
  | 41 => ⟨S16x80x4400, .f32⟩
  | 42 => ⟨S16x80x4400, .f32⟩
  | 43 => ⟨S1x1x1x1, .f32⟩
  | 44 => ⟨S_, .f32⟩
  | 45 => ⟨S16x80x4400, .f32⟩
  | 46 => ⟨S16x80x4400, .f32⟩
  | 47 => ⟨S16x80x4400, .f32⟩
  | 48 => ⟨S16x80x4400, .f32⟩
  | 49 => ⟨S1x1x1x1, .f32⟩
  | 50 => ⟨S_, .f32⟩
  | 51 => ⟨S16x80x4400, .f32⟩
  | 52 => ⟨S16x80x4400, .f32⟩
  | 53 => ⟨S16x80x4400, .f32⟩
  | 54 => ⟨S16x80x3300, .f32⟩
  | 55 => ⟨S16x3300x80, .f32⟩
  | 56 => ⟨S16x3300x592, .f32⟩
  | 57 => ⟨S16x3300x1536, .f32⟩
  | 58 => ⟨S1x1x1536, .f32⟩
  | 59 => ⟨S16x3300x1536, .f32⟩
  | 60 => ⟨S16x3300x1536, .f32⟩
  | 61 => ⟨S_, .f32⟩
  | 62 => ⟨S16x512, .f32⟩
  | 63 => ⟨S3300x16x1536, .f32⟩
  | 64 => ⟨S_, .f32⟩
  | 65 => ⟨S3300x16x512, .f32⟩
  | 66 => ⟨S_, .i32⟩
  | 67 => ⟨S3300x16x1536, .f32⟩
  | 68 => ⟨S1536x512, .f32⟩
  | 69 => ⟨S1536, .f32⟩
  | 70 => ⟨S_, .i32⟩
  | 71 => ⟨S16x512, .f32⟩
  | 72 => ⟨S3300x16x512, .f32⟩
  | 73 => ⟨S_, .i32⟩
  | 74 => ⟨S_, .i1⟩
  | 75 => ⟨S_, .i32⟩
  | 76 => ⟨S_, .i32⟩
  | 77 => ⟨S1x16x1536, .f32⟩
  | 78 => ⟨S16x1536, .f32⟩
  | 79 => ⟨S512x1536, .f32⟩
  | 80 => ⟨S16x1536, .f32⟩
  | 81 => ⟨S1x1536, .f32⟩
  | 82 => ⟨S16x1536, .f32⟩
  | 83 => ⟨S16x1536, .f32⟩
  | 84 => ⟨S16x512, .f32⟩
  | 85 => ⟨S16x512, .f32⟩
  | 86 => ⟨S16x512, .f32⟩
  | 87 => ⟨S16x512, .f32⟩
  | 88 => ⟨S16x512, .f32⟩
  | 89 => ⟨S16x512, .f32⟩
  | 90 => ⟨S16x512, .f32⟩
  | 91 => ⟨S16x512, .f32⟩
  | 92 => ⟨S16x512, .f32⟩
  | 93 => ⟨S_, .f32⟩
  | 94 => ⟨S16x512, .f32⟩
  | 95 => ⟨S16x512, .f32⟩
  | 96 => ⟨S_, .f32⟩
  | 97 => ⟨S16x512, .f32⟩
  | 98 => ⟨S16x512, .f32⟩
  | 99 => ⟨S16x512, .f32⟩
  | 100 => ⟨S16x512, .f32⟩
  | 101 => ⟨S16x512, .f32⟩
  | 102 => ⟨S_, .f32⟩
  | 103 => ⟨S16x512, .f32⟩
  | 104 => ⟨S16x512, .f32⟩
  | 105 => ⟨S_, .f32⟩
  | 106 => ⟨S16x512, .f32⟩
  | 107 => ⟨S16x512, .f32⟩
  | 108 => ⟨S16x512, .f32⟩
  | 109 => ⟨S16x512, .f32⟩
  | 110 => ⟨S16x512, .f32⟩
  | 111 => ⟨S_, .f32⟩
  | 112 => ⟨S16x512, .f32⟩
  | 113 => ⟨S16x512, .f32⟩
  | 114 => ⟨S16x512, .f32⟩
  | 115 => ⟨S16x512, .f32⟩
  | 116 => ⟨S16x512, .f32⟩
  | 117 => ⟨S1x16x512, .f32⟩
  | 118 => ⟨S_, .i32⟩
  | 119 => ⟨S_, .i32⟩
  | 120 => ⟨S3300x16x512, .f32⟩
  | 121 => ⟨S_, .i32⟩
  | 122 => ⟨S_, .i32⟩
  | 123 => ⟨S16x3300x512, .f32⟩
  | 124 => ⟨S16x3300x512, .f32⟩
  | 125 => ⟨S1x1x512, .f32⟩
  | 126 => ⟨S16x3300x512, .f32⟩
  | 127 => ⟨S16x3300x512, .f32⟩
  | _ => ⟨S16x3300, .i32⟩

abbrev hbmTy0_3 (i : Nat) : BufTy := match i % 128 with
  | 0 => ⟨S_, .f32⟩
  | 1 => ⟨S16x3300x512, .f32⟩
  | 2 => ⟨S16x3300x512, .f32⟩
  | 3 => ⟨S16x3300x512, .f32⟩
  | 4 => ⟨S1x1x512, .f32⟩
  | 5 => ⟨S16x3300x512, .f32⟩
  | 6 => ⟨S16x3300x512, .f32⟩
  | _ => ⟨S16x3300, .i32⟩

abbrev hbmTy (i : Nat) : BufTy := match i / 128 with
  | 0 => hbmTy0_0 i
  | 1 => hbmTy0_1 i
  | 2 => hbmTy0_2 i
  | 3 => hbmTy0_3 i
  | _ => ⟨S16x3300, .i32⟩

abbrev bufTy : (tb : Table) → Fin (tcTables nBuf tb) → BufTy
  | .hbm, ⟨i, _⟩ => hbmTy i
  | _, _ => ⟨S16x3300, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_0 : Ref sig .tc := ⟨.hbm, 94, rfl⟩
abbrev main_call2_v0 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_1 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_c_2 : Ref sig .tc := ⟨.hbm, 167, rfl⟩
abbrev main_call3_v0 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_cst_3 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_cst_4 : Ref sig .tc := ⟨.hbm, 317, rfl⟩
abbrev main_v290 : Ref sig .tc := ⟨.hbm, 318, rfl⟩
abbrev main_v291 : Ref sig .tc := ⟨.hbm, 319, rfl⟩
abbrev main_cst_5 : Ref sig .tc := ⟨.hbm, 320, rfl⟩
abbrev main_v292 : Ref sig .tc := ⟨.hbm, 321, rfl⟩
abbrev main_c_6 : Ref sig .tc := ⟨.hbm, 322, rfl⟩
abbrev main_v293_0 : Ref sig .tc := ⟨.hbm, 323, rfl⟩
abbrev main_v293_1 : Ref sig .tc := ⟨.hbm, 324, rfl⟩
abbrev main_v293_2 : Ref sig .tc := ⟨.hbm, 325, rfl⟩
abbrev main_v293_3 : Ref sig .tc := ⟨.hbm, 326, rfl⟩
abbrev main_v293_4 : Ref sig .tc := ⟨.hbm, 327, rfl⟩
abbrev main_v293_5 : Ref sig .tc := ⟨.hbm, 328, rfl⟩
abbrev main_while0c_c_12 : Ref sig .tc := ⟨.hbm, 329, rfl⟩
abbrev main_while0c_v304 : Ref sig .tc := ⟨.hbm, 330, rfl⟩
abbrev main_while0b_call4_c : Ref sig .tc := ⟨.hbm, 331, rfl⟩
abbrev main_while0b_call4_c_0 : Ref sig .tc := ⟨.hbm, 332, rfl⟩
abbrev main_while0b_call4_v0 : Ref sig .tc := ⟨.hbm, 333, rfl⟩
abbrev main_while0b_v304 : Ref sig .tc := ⟨.hbm, 334, rfl⟩
abbrev main_while0b_v305 : Ref sig .tc := ⟨.hbm, 335, rfl⟩
abbrev main_while0b_v306 : Ref sig .tc := ⟨.hbm, 336, rfl⟩
abbrev main_while0b_v307 : Ref sig .tc := ⟨.hbm, 337, rfl⟩
abbrev main_while0b_v308 : Ref sig .tc := ⟨.hbm, 338, rfl⟩
abbrev main_while0b_v309 : Ref sig .tc := ⟨.hbm, 339, rfl⟩
abbrev main_while0b_v310 : Ref sig .tc := ⟨.hbm, 340, rfl⟩
abbrev main_while0b_v311 : Ref sig .tc := ⟨.hbm, 341, rfl⟩
abbrev main_while0b_v312 : Ref sig .tc := ⟨.hbm, 342, rfl⟩
abbrev main_while0b_v313 : Ref sig .tc := ⟨.hbm, 343, rfl⟩
abbrev main_while0b_v314 : Ref sig .tc := ⟨.hbm, 344, rfl⟩
abbrev main_while0b_v315 : Ref sig .tc := ⟨.hbm, 345, rfl⟩
abbrev main_while0b_v316 : Ref sig .tc := ⟨.hbm, 346, rfl⟩
abbrev main_while0b_v317 : Ref sig .tc := ⟨.hbm, 347, rfl⟩
abbrev main_while0b_v318 : Ref sig .tc := ⟨.hbm, 348, rfl⟩
abbrev main_while0b_cst_12 : Ref sig .tc := ⟨.hbm, 349, rfl⟩
abbrev main_while0b_v319 : Ref sig .tc := ⟨.hbm, 350, rfl⟩
abbrev main_while0b_v320 : Ref sig .tc := ⟨.hbm, 351, rfl⟩
abbrev main_while0b_cst_13 : Ref sig .tc := ⟨.hbm, 352, rfl⟩
abbrev main_while0b_v321 : Ref sig .tc := ⟨.hbm, 353, rfl⟩
abbrev main_while0b_v322 : Ref sig .tc := ⟨.hbm, 354, rfl⟩
abbrev main_while0b_v323 : Ref sig .tc := ⟨.hbm, 355, rfl⟩
abbrev main_while0b_v324 : Ref sig .tc := ⟨.hbm, 356, rfl⟩
abbrev main_while0b_v325 : Ref sig .tc := ⟨.hbm, 357, rfl⟩
abbrev main_while0b_cst_14 : Ref sig .tc := ⟨.hbm, 358, rfl⟩
abbrev main_while0b_v326 : Ref sig .tc := ⟨.hbm, 359, rfl⟩
abbrev main_while0b_v327 : Ref sig .tc := ⟨.hbm, 360, rfl⟩
abbrev main_while0b_cst_15 : Ref sig .tc := ⟨.hbm, 361, rfl⟩
abbrev main_while0b_v328 : Ref sig .tc := ⟨.hbm, 362, rfl⟩
abbrev main_while0b_v329 : Ref sig .tc := ⟨.hbm, 363, rfl⟩
abbrev main_while0b_v330 : Ref sig .tc := ⟨.hbm, 364, rfl⟩
abbrev main_while0b_v331 : Ref sig .tc := ⟨.hbm, 365, rfl⟩
abbrev main_while0b_v332 : Ref sig .tc := ⟨.hbm, 366, rfl⟩
abbrev main_while0b_cst_16 : Ref sig .tc := ⟨.hbm, 367, rfl⟩
abbrev main_while0b_v333 : Ref sig .tc := ⟨.hbm, 368, rfl⟩
abbrev main_while0b_v334 : Ref sig .tc := ⟨.hbm, 369, rfl⟩
abbrev main_while0b_v335 : Ref sig .tc := ⟨.hbm, 370, rfl⟩
abbrev main_while0b_v336 : Ref sig .tc := ⟨.hbm, 371, rfl⟩
abbrev main_while0b_v337 : Ref sig .tc := ⟨.hbm, 372, rfl⟩
abbrev main_while0b_call5_v0 : Ref sig .tc := ⟨.hbm, 373, rfl⟩
abbrev main_while0b_call5_c : Ref sig .tc := ⟨.hbm, 374, rfl⟩
abbrev main_while0b_call5_c_0 : Ref sig .tc := ⟨.hbm, 375, rfl⟩
abbrev main_while0b_v338 : Ref sig .tc := ⟨.hbm, 376, rfl⟩
abbrev main_while0b_c_17 : Ref sig .tc := ⟨.hbm, 377, rfl⟩
abbrev main_while0b_v339 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_call6_cst : Ref sig .tc := ⟨.hbm, 384, rfl⟩
abbrev main_call6_v0 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩

abbrev nD : Nat := 1
abbrev τ : Topo := Topo.v7x

variable {F : FTy → Type} [FloatOps F]

abbrev main_while0_count : Scf.Loop 32 := ⟨0#32, 3300#32, 1#32⟩
-- ==== Proof.GruTrip.lean ====
/- One trip of the recurrence loop as a function of the carried state. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Trip
variable (𝒱 : Variants) (c : Dev nD) (bd : Option 𝒱.V) (i : grid0.Coords) (arg1 : Memref sig .tc .vmem S128x16 .i32) (harg1 : arg1.IsWhole) (arg2 : Memref sig .tc .vmem S128x16 .f32) (harg2 : arg2.IsWhole) (arg3 : Memref sig .tc .vmem S16x2048 .f32) (harg3 : arg3.IsWhole) (arg4 : Memref sig .tc .vmem S512x1536 .f32) (harg4 : arg4.IsWhole) (arg5 : Memref sig .tc .vmem S128x1536 .f32) (harg5 : arg5.IsWhole) (arg6 : Memref sig .tc .vmem S1x1536 .f32) (harg6 : arg6.IsWhole) (arg7 : Memref sig .tc .vmem S512x1536 .f32) (harg7 : arg7.IsWhole) (arg8 : Memref sig .tc .vmem S1x1536 .f32) (harg8 : arg8.IsWhole) (arg9 : Memref sig .tc .vmem S128x16x512 .f32) (harg9 : arg9.IsWhole) (arg10 : Memref sig .tc .vmem S16x512 .f32) (harg10 : arg10.IsWhole) (arg11 : Memref sig .tc .vmem S128x16x1536 .f32) (harg11 : arg11.IsWhole) (v34 : FVec F S512x1536 .f32) (v35 : Vec F S1x1536 .f32)

/-- The index `(k, a, b)` of a block of 128 rows, the row given by the index `(0, a, b)` of one row. -/
def rowIdx3 {n p : ℕ} (k : Fin 128) (y : (⟨3, ![1, n, p]⟩ : Shape).Idx) : (⟨3, ![128, n, p]⟩ : Shape).Idx :=
  fun a => match a with | 0 => k | 1 => y 1 | 2 => y 2

/-- The loop runs 128 trips. -/
theorem trips_eq : k0_t1_loop.trips = 128 := by decide

/-- Row `k` of the block of gate inputs. -/
def xrow (xp : Vec F S128x16x1536 .f32) (k : ℕ) : Vec F S1x16x1536 .f32 :=
  fun y => if h : k < 128 then xp (rowIdx3 ⟨k, h⟩ y) else xp (rowIdx3 0 y)

/-- The state after `k` steps of the recurrence from `h0` over the gate inputs `xp`. -/
def gruH (w : FVec F S512x1536 .f32) (b : Vec F S1x1536 .f32) (xp : Vec F S128x16x1536 .f32) (h0 : Vec F S16x512 .f32) : ℕ → Vec F S16x512 .f32
  | 0 => h0
  | k + 1 => k0_pay1 w b (gruH w b xp h0 k) (xrow xp k)

/-- One trip yields the new state computed from the carried state and the trip's row of gate inputs. -/
theorem tripR_eq (X : BufTy.Contents (Elt F) arg11.view.ty) (k : Fin k0_t1_loop.trips) (acc : Vec F S16x512 .f32) :
    tripR_k0_t1 (F := F) 𝒱 c bd i arg1 harg1 arg2 harg2 arg3 harg3 arg4 harg4 arg5 harg5 arg6 harg6 arg7 harg7 arg8 harg8 arg9 harg9 arg10 harg10 arg11 harg11 v34 v35 X k acc
      = k0_pay1 v34 v35 acc (View.readAt (Elt F) arg11.view (Rect.unit (s := S128x16x1536) (k0_off1 k) S1x16x1536.size (k0_off1_inb k)).toLoadRect X) := by
  unfold tripR_k0_t1 trip_k0_t1
  rfl

/-- One trip writes the new state into its row of the output block. -/
theorem tripL_eq (X : BufTy.Contents (Elt F) arg11.view.ty) (k : Fin k0_t1_loop.trips) (acc : Vec F S16x512 .f32) :
    tripL_k0_t1 (F := F) 𝒱 c bd i arg1 harg1 arg2 harg2 arg3 harg3 arg4 harg4 arg5 harg5 arg6 harg6 arg7 harg7 arg8 harg8 arg9 harg9 arg10 harg10 arg11 harg11 v34 v35 X k acc
      = [⟨Rect.unit (s := S128x16x512) (k0_off2 k) S1x16x512.size (k0_off2_inb k), k0_pay2 v34 v35 acc (View.readAt (Elt F) arg11.view (Rect.unit (s := S128x16x1536) (k0_off1 k) S1x16x1536.size (k0_off1_inb k)).toLoadRect X)⟩] := by
  unfold tripL_k0_t1 trip_k0_t1
  rfl

omit harg11 in
/-- The trip's load reads its row of the block of gate inputs. -/
theorem load_row (X : BufTy.Contents (Elt F) arg11.view.ty) (xp : Vec F S128x16x1536 .f32) (hX : arg11.view.read (Elt F) X = xp) (k : Fin k0_t1_loop.trips) :
    View.readAt (Elt F) arg11.view (Rect.unit (s := S128x16x1536) (k0_off1 k) S1x16x1536.size (k0_off1_inb k)).toLoadRect X = xrow xp k.val := by
  have hk : k.val < 128 := lt_of_lt_of_eq k.isLt trips_eq
  subst hX
  funext y
  rw [View.readAt_apply, xrow, dif_pos hk]
  congr 1
  funext a
  apply Fin.ext
  refine (congrArg (· + 1 * (y a).val) (congrFun (k0_off1_eq k) a)).trans ?_
  fin_cases a
  · have : (y 0).val = 0 := by have := (y 0).isLt; simpa using this
    show k.val + 1 * (y 0).val = k.val
    omega
  · show 0 + 1 * (y 1).val = (y 1).val
    omega
  · show 0 + 1 * (y 2).val = (y 2).val
    omega

/-- The index of one row `(0, a, b)` from an index of the block. -/
def rowOf3 {m n p : ℕ} (y : (⟨3, ![m, n, p]⟩ : Shape).Idx) : (⟨3, ![1, n, p]⟩ : Shape).Idx :=
  fun a => match a with | 0 => (⟨0, Nat.one_pos⟩ : Fin 1) | 1 => y 1 | 2 => y 2

/-- After `k` trips the carried value is the state after `k` steps, and row `j < k` of the output block
reads the state after `j + 1` steps, laid out as one row. -/
theorem st_gru (X : BufTy.Contents (Elt F) arg11.view.ty) (xp : Vec F S128x16x1536 .f32) (hX : arg11.view.read (Elt F) X = xp) (h0 : Vec F S16x512 .f32)
    (G : BufTy.Contents (Elt F) arg9.view.ty) (k : ℕ) (hk : k ≤ 128) :
    (st_k0_t1 (F := F) 𝒱 c bd i arg1 harg1 arg2 harg2 arg3 harg3 arg4 harg4 arg5 harg5 arg6 harg6 arg7 harg7 arg8 harg8 arg9 harg9 arg10 harg10 arg11 harg11 v34 v35 X h0 k).1 = gruH v34 v35 xp h0 k
    ∧ ∀ y : S128x16x512.Idx, (y 0).val < k →
      arg9.view.read (Elt F) (arg9.view.writes (Elt F) G (st_k0_t1 (F := F) 𝒱 c bd i arg1 harg1 arg2 harg2 arg3 harg3 arg4 harg4 arg5 harg5 arg6 harg6 arg7 harg7 arg8 harg8 arg9 harg9 arg10 harg10 arg11 harg11 v34 v35 X h0 k).2) y
        = k0_pay2 v34 v35 (gruH v34 v35 xp h0 (y 0).val) (xrow xp (y 0).val) (rowOf3 y) := by
  induction k with
  | zero => exact ⟨rfl, fun y h => absurd h (Nat.not_lt_zero _)⟩
  | succ k ih =>
    obtain ⟨ih1, ih2⟩ := ih (by omega)
    have hk' : k < k0_t1_loop.trips := lt_of_lt_of_eq (by omega) trips_eq.symm
    have hs := st_k0_t1_succ (F := F) 𝒱 c bd i arg1 harg1 arg2 harg2 arg3 harg3 arg4 harg4 arg5 harg5 arg6 harg6 arg7 harg7 arg8 harg8 arg9 harg9 arg10 harg10 arg11 harg11 v34 v35 X h0 ⟨k, hk'⟩
    dsimp only at hs
    rw [hs, tripR_eq, tripL_eq, ih1, load_row (hX := hX)]
    refine ⟨rfl, fun y hy => ?_⟩
    rw [List.singleton_append]
    by_cases hyk : (y 0).val = k
    · rw [View.read_writes_cons_unit_of_mem (off' := ![k, 0, 0]) (x := rowOf3 y) (heq := k0_off2_eq ⟨k, hk'⟩)]
      · rw [hyk]
      · intro a
        fin_cases a
        · show (y 0).val = k + 0
          omega
        · show (y 1).val = 0 + (y 1).val
          omega
        · show (y 2).val = 0 + (y 2).val
          omega
    · rw [View.read_writes_cons_unit_of_not_mem (off' := ![k, 0, 0]) (heq := k0_off2_eq ⟨k, hk'⟩) (a := 0) (ha := by left; show (y 0).val < k; omega)]
      exact ih2 y (by omega)

end Trip

end Cert.KernelIdeal.Hand

end
-- ==== Proof.GruBody.lean ====
/- The body of the recurrence kernel: what one grid point leaves in its output block and in its state. -/
module

public import proofs.«01_k».proof.Proof.GruTrip
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of outputs of one grid point: row `j` is the state after `j + 1` steps. -/
def gruOut (x0 : Vec F S128x16 .i32) (x1 : Vec F S128x16 .f32) (x2 : Vec F S16x2048 .f32) (x3 : Vec F S512x1536 .f32) (x4 : Vec F S128x1536 .f32) (x5 : Vec F S1x1536 .f32) (x6 : Vec F S512x1536 .f32) (x7 : Vec F S1x1536 .f32) (h0 : Vec F S16x512 .f32) : Vec F S128x16x512 .f32 := fun y =>
  k0_pay2 (k0_pay6 x6) x7 (gruH (k0_pay6 x6) x7 (k0_pay5 x0 x1 x2 x3 x4 x5) h0 (y 0).val) (xrow (k0_pay5 x0 x1 x2 x3 x4 x5) (y 0).val) (rowOf3 y)

/-- The state one grid point leaves: the state after its 128 steps. -/
def gruLast (x0 : Vec F S128x16 .i32) (x1 : Vec F S128x16 .f32) (x2 : Vec F S16x2048 .f32) (x3 : Vec F S512x1536 .f32) (x4 : Vec F S128x1536 .f32) (x5 : Vec F S1x1536 .f32) (x6 : Vec F S512x1536 .f32) (x7 : Vec F S1x1536 .f32) (h0 : Vec F S16x512 .f32) : Vec F S16x512 .f32 :=
  k0_pay3 (gruH (k0_pay6 x6) x7 (k0_pay5 x0 x1 x2 x3 x4 x5) h0 128)

/-- Loading the whole of a memref held at the contents that read `X` gives `X`. -/
theorem load_full {s : Shape} {e : EltTy} {sp : Space} {arg : Memref sig .tc sp s e} (h : arg.IsWhole) (X : s.Idx → Elt F e)
    {off : Fin s.rank → ℕ} (inb : ∀ a, off a + s.size a ≤ s.size a) :
    View.readAt (Elt F) arg.view (Rect.unit off s.size inb).toLoadRect (h.unread X) = X := by
  funext y
  rw [h.readAt_unread]
  exact congrArg X (Rect.emb_unit_full inb y)

section Run
variable (c : Dev nD) (i : grid0.Coords) (arg1 : Memref sig .tc .vmem S128x16 .i32) (harg1 : arg1.IsWhole) (arg2 : Memref sig .tc .vmem S128x16 .f32) (harg2 : arg2.IsWhole) (arg3 : Memref sig .tc .vmem S16x2048 .f32) (harg3 : arg3.IsWhole) (arg4 : Memref sig .tc .vmem S512x1536 .f32) (harg4 : arg4.IsWhole) (arg5 : Memref sig .tc .vmem S128x1536 .f32) (harg5 : arg5.IsWhole) (arg6 : Memref sig .tc .vmem S1x1536 .f32) (harg6 : arg6.IsWhole) (arg7 : Memref sig .tc .vmem S512x1536 .f32) (harg7 : arg7.IsWhole) (arg8 : Memref sig .tc .vmem S1x1536 .f32) (harg8 : arg8.IsWhole) (arg9 : Memref sig .tc .vmem S128x16x512 .f32) (harg9 : arg9.IsWhole) (arg10 : Memref sig .tc .vmem S16x512 .f32) (harg10 : arg10.IsWhole) (arg11 : Memref sig .tc .vmem S128x16x1536 .f32) (harg11 : arg11.IsWhole)

/-- The test the body makes on the grid index: whether this is the first point. -/
abbrev first0 (i : grid0.Coords) : Prop :=
  Scalar.cmpi .ne (Scalar.extui (Scalar.cmpi .eq (BitVec.ofNat 32 (i 0).val) 0#32) : BitVec 32) 0#32 = 1#1

/-- What the body is called on: its inputs at their contents, the state scratch at `hs`, the rest at anything. -/
def gruPre (x0 : Vec F S128x16 .i32) (x1 : Vec F S128x16 .f32) (x2 : Vec F S16x2048 .f32) (x3 : Vec F S512x1536 .f32) (x4 : Vec F S128x1536 .f32) (x5 : Vec F S1x1536 .f32) (x6 : Vec F S512x1536 .f32) (x7 : Vec F S1x1536 .f32) (hs : Vec F S16x512 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare hs ∗ (∃ d, owns (c : Thread nD τ) arg11 fullShare d))

/-- What the body returns: its inputs as they were, the output block and the state scratch at what the
recurrence from `h0` makes of them. -/
def gruPost (x0 : Vec F S128x16 .i32) (x1 : Vec F S128x16 .f32) (x2 : Vec F S16x2048 .f32) (x3 : Vec F S512x1536 .f32) (x4 : Vec F S128x1536 .f32) (x5 : Vec F S1x1536 .f32) (x6 : Vec F S512x1536 .f32) (x7 : Vec F S1x1536 .f32) (h0 : Vec F S16x512 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (gruOut x0 x1 x2 x3 x4 x5 x6 x7 h0) ∗ owns (c : Thread nD τ) arg10 fullShare (gruLast x0 x1 x2 x3 x4 x5 x6 x7 h0) ∗ (∃ d, owns (c : Thread nD τ) arg11 fullShare d))

omit [FloatOps F] in
/-- Loading the whole of a memref at any contents is reading it. -/
theorem load_whole {s : Shape} {e : EltTy} {sp : Space} {arg : Memref sig .tc sp s e} (f : BufTy.Contents (Elt F) arg.view.ty)
    {off : Fin s.rank → ℕ} (inb : ∀ a, off a + s.size a ≤ s.size a) :
    View.readAt (Elt F) arg.view (Rect.unit off s.size inb).toLoadRect f = arg.view.read (Elt F) f := by
  funext y
  exact congrArg (arg.view.read (Elt F) f) (Rect.emb_unit_full inb y)

/-- The loop's run from the state `h0` over the point's gate inputs: its last state, and the output block read back. -/
theorem loop_reads (x0 : Vec F S128x16 .i32) (x1 : Vec F S128x16 .f32) (x2 : Vec F S16x2048 .f32) (x3 : Vec F S512x1536 .f32) (x4 : Vec F S128x1536 .f32) (x5 : Vec F S1x1536 .f32) (x6 : Vec F S512x1536 .f32) (x7 : Vec F S1x1536 .f32) (v34 : FVec F S512x1536 .f32) (v35 : Vec F S1x1536 .f32) (X : BufTy.Contents (Elt F) arg11.view.ty) (init h0 : Vec F S16x512 .f32)
    (hA : v34 = k0_pay6 x6) (hB : v35 = x7) (hX : arg11.view.read (Elt F) X = k0_pay5 x0 x1 x2 x3 x4 x5) (hD : init = h0) (G : BufTy.Contents (Elt F) arg9.view.ty) :
    k0_pay3 (st_k0_t1 (F := F) Variants.none c none i arg1 harg1 arg2 harg2 arg3 harg3 arg4 harg4 arg5 harg5 arg6 harg6 arg7 harg7 arg8 harg8 arg9 harg9 arg10 harg10 arg11 harg11 v34 v35 X init (Scf.trips k0_t1_loop.lb k0_t1_loop.ub k0_t1_loop.st)).1 = gruLast x0 x1 x2 x3 x4 x5 x6 x7 h0
    ∧ arg9.view.read (Elt F) (arg9.view.writes (Elt F) G (st_k0_t1 (F := F) Variants.none c none i arg1 harg1 arg2 harg2 arg3 harg3 arg4 harg4 arg5 harg5 arg6 harg6 arg7 harg7 arg8 harg8 arg9 harg9 arg10 harg10 arg11 harg11 v34 v35 X init (Scf.trips k0_t1_loop.lb k0_t1_loop.ub k0_t1_loop.st)).2) = gruOut x0 x1 x2 x3 x4 x5 x6 x7 h0 := by
  subst hA hB hD
  have ht : Scf.trips k0_t1_loop.lb k0_t1_loop.ub k0_t1_loop.st = 128 := trips_eq
  rw [ht]
  have h := st_gru Variants.none c none i arg1 harg1 arg2 harg2 arg3 harg3 arg4 harg4 arg5 harg5 arg6 harg6 arg7 harg7 arg8 harg8 arg9 harg9 arg10 harg10 arg11 harg11 (k0_pay6 x6) v35 X _ hX init G 128 le_rfl
  refine ⟨congrArg k0_pay3 h.1, funext fun y => ?_⟩
  exact h.2 y (y 0).isLt

/-- The gate inputs read back from the scratch they were stored into. -/
theorem gruX (x0 : Vec F S128x16 .i32) (x1 : Vec F S128x16 .f32) (x2 : Vec F S16x2048 .f32) (x3 : Vec F S512x1536 .f32) (x4 : Vec F S128x1536 .f32) (x5 : Vec F S1x1536 .f32) (g : BufTy.Contents (Elt F) arg11.view.ty) :
    arg11.view.read (Elt F) (arg11.view.writes (Elt F) g [⟨Rect.unit (s := S128x16x1536) ![0, 0, 0] S128x16x1536.size inb_S128x16x1536_S128x16x1536_0_0_0,
      k0_pay5 (View.readAt (Elt F) arg1.view (Rect.unit (s := S128x16) ![0, 0] S128x16.size inb_S128x16_S128x16_0_0).toLoadRect (harg1.unread x0))
        (View.readAt (Elt F) arg2.view (Rect.unit (s := S128x16) ![0, 0] S128x16.size inb_S128x16_S128x16_0_0).toLoadRect (harg2.unread x1))
        (View.readAt (Elt F) arg3.view (Rect.unit (s := S16x2048) ![0, 0] S16x2048.size inb_S16x2048_S16x2048_0_0).toLoadRect (harg3.unread x2))
        (View.readAt (Elt F) arg4.view (Rect.unit (s := S512x1536) ![0, 0] S512x1536.size inb_S512x1536_S512x1536_0_0).toLoadRect (harg4.unread x3))
        (View.readAt (Elt F) arg5.view (Rect.unit (s := S128x1536) ![0, 0] S128x1536.size inb_S128x1536_S128x1536_0_0).toLoadRect (harg5.unread x4))
        (View.readAt (Elt F) arg6.view (Rect.unit (s := S1x1536) ![0, 0] S1x1536.size inb_S1x1536_S1x1536_0_0).toLoadRect (harg6.unread x5))⟩]) = k0_pay5 x0 x1 x2 x3 x4 x5 := by
  refine (View.read_writes_full _ _ _ _ _).trans ?_
  exact congr (congr (congr (congr (congr (congrArg k0_pay5 (load_full harg1 x0 _)) (load_full harg2 x1 _)) (load_full harg3 x2 _)) (load_full harg4 x3 _)) (load_full harg5 x4 _)) (load_full harg6 x5 _)

set_option maxHeartbeats 1000000 in
/-- At a point that is not the first, the body runs the recurrence from the state the scratch holds. -/
theorem gru_body_next (hc0 : ¬ first0 i) (x0 : Vec F S128x16 .i32) (x1 : Vec F S128x16 .f32) (x2 : Vec F S16x2048 .f32) (x3 : Vec F S512x1536 .f32) (x4 : Vec F S128x1536 .f32) (x5 : Vec F S1x1536 .f32) (x6 : Vec F S512x1536 .f32) (x7 : Vec F S1x1536 .f32) (hs : Vec F S16x512 .f32) (E : Set ℕ) :
    gruPre c arg1 arg2 arg3 arg4 arg5 arg6 arg7 arg8 arg9 arg10 arg11 x0 x1 x2 x3 x4 x5 x6 x7 hs
      ⊢ wp frame (wpE (defs₀ (F := F)) Variants.none c none) E (cc0_gru_scan i arg1 harg1 arg2 harg2 arg3 harg3 arg4 harg4 arg5 harg5 arg6 harg6 arg7 harg7 arg8 harg8 arg9 harg9 arg10 harg10 arg11 harg11)
          (fun _ => gruPost c arg1 arg2 arg3 arg4 arg5 arg6 arg7 arg8 arg9 arg10 arg11 x0 x1 x2 x3 x4 x5 x6 x7 hs) := by
  unfold gruPre gruPost
  simp only [cc0_gru_scan_eq_skeleton]; unfold cc0_gru_scan_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0
  sl_exec (disch := first | sl_exact hc0)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    exact (loop_reads c i arg1 harg1 arg2 harg2 arg3 harg3 arg4 harg4 arg5 harg5 arg6 harg6 arg7 harg7 arg8 harg8 arg9 harg9 arg10 harg10 arg11 harg11 x0 x1 x2 x3 x4 x5 x6 x7 _ _ _ _ hs (congrArg k0_pay6 (load_full harg7 x6 _)) (load_full harg8 x7 _) (gruX arg1 harg1 arg2 harg2 arg3 harg3 arg4 harg4 arg5 harg5 arg6 harg6 arg11 x0 x1 x2 x3 x4 x5 _) (load_full harg10 hs _) f8).2
  isplitl [HS0]
  · iexists _; isplitr
    swap; · iexact HS0
    ipureintro
    refine (View.read_writes_full _ _ _ _ _).trans ?_
    exact (loop_reads c i arg1 harg1 arg2 harg2 arg3 harg3 arg4 harg4 arg5 harg5 arg6 harg6 arg7 harg7 arg8 harg8 arg9 harg9 arg10 harg10 arg11 harg11 x0 x1 x2 x3 x4 x5 x6 x7 _ _ _ _ hs (congrArg k0_pay6 (load_full harg7 x6 _)) (load_full harg8 x7 _) (gruX arg1 harg1 arg2 harg2 arg3 harg3 arg4 harg4 arg5 harg5 arg6 harg6 arg11 x0 x1 x2 x3 x4 x5 _) (load_full harg10 hs _) f8).1
  iexists _, _; isplitr; swap; · iexact HS1
  ipureintro; rfl

set_option maxHeartbeats 1000000 in
/-- At the first point, the body runs the recurrence from the zero state. -/
theorem gru_body_first (hc0 : first0 i) (x0 : Vec F S128x16 .i32) (x1 : Vec F S128x16 .f32) (x2 : Vec F S16x2048 .f32) (x3 : Vec F S512x1536 .f32) (x4 : Vec F S128x1536 .f32) (x5 : Vec F S1x1536 .f32) (x6 : Vec F S512x1536 .f32) (x7 : Vec F S1x1536 .f32) (hs : Vec F S16x512 .f32) (E : Set ℕ) :
    gruPre c arg1 arg2 arg3 arg4 arg5 arg6 arg7 arg8 arg9 arg10 arg11 x0 x1 x2 x3 x4 x5 x6 x7 hs
      ⊢ wp frame (wpE (defs₀ (F := F)) Variants.none c none) E (cc0_gru_scan i arg1 harg1 arg2 harg2 arg3 harg3 arg4 harg4 arg5 harg5 arg6 harg6 arg7 harg7 arg8 harg8 arg9 harg9 arg10 harg10 arg11 harg11)
          (fun _ => gruPost c arg1 arg2 arg3 arg4 arg5 arg6 arg7 arg8 arg9 arg10 arg11 x0 x1 x2 x3 x4 x5 x6 x7 k0_pay4) := by
  unfold gruPre gruPost
  simp only [cc0_gru_scan_eq_skeleton]; unfold cc0_gru_scan_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0
  sl_exec (disch := first | sl_exact hc0)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    exact (loop_reads c i arg1 harg1 arg2 harg2 arg3 harg3 arg4 harg4 arg5 harg5 arg6 harg6 arg7 harg7 arg8 harg8 arg9 harg9 arg10 harg10 arg11 harg11 x0 x1 x2 x3 x4 x5 x6 x7 _ _ _ _ k0_pay4 (congrArg k0_pay6 (load_full harg7 x6 _)) (load_full harg8 x7 _) (gruX arg1 harg1 arg2 harg2 arg3 harg3 arg4 harg4 arg5 harg5 arg6 harg6 arg11 x0 x1 x2 x3 x4 x5 _) ((load_whole _ _).trans (View.read_writes_full _ _ _ _ _)) f8).2
  isplitl [HS0]
  · iexists _; isplitr
    swap; · iexact HS0
    ipureintro
    refine (View.read_writes_full _ _ _ _ _).trans ?_
    exact (loop_reads c i arg1 harg1 arg2 harg2 arg3 harg3 arg4 harg4 arg5 harg5 arg6 harg6 arg7 harg7 arg8 harg8 arg9 harg9 arg10 harg10 arg11 harg11 x0 x1 x2 x3 x4 x5 x6 x7 _ _ _ _ k0_pay4 (congrArg k0_pay6 (load_full harg7 x6 _)) (load_full harg8 x7 _) (gruX arg1 harg1 arg2 harg2 arg3 harg3 arg4 harg4 arg5 harg5 arg6 harg6 arg11 x0 x1 x2 x3 x4 x5 _) ((load_whole _ _).trans (View.read_writes_full _ _ _ _ _)) f8).1
  iexists _, _; isplitr; swap; · iexact HS1
  ipureintro; rfl

end Run

end Cert.KernelIdeal.Hand

end
-- ==== Proof.Region0.lean ====
/- The recurrence kernel's region: its proof data over the buffers it is entered with, and its body obligation. -/
module

public import proofs.«01_k».proof.Proof.GruBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 0's staging buffer at point `t`. -/
abbrev ms0_0 (t : Fin cfg0.N) : Memref sig .tc .vmem S128x16 .i32 := win0_0.stage (cfg0.slots t 0)
/-- It is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S128x16 .f32 := win0_1.stage (cfg0.slots t 1)
/-- It is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S16x2048 .f32 := win0_2.stage (cfg0.slots t 2)
/-- It is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S512x1536 .f32 := win0_3.stage (cfg0.slots t 3)
/-- It is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S128x1536 .f32 := win0_4.stage (cfg0.slots t 4)
/-- It is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S1x1536 .f32 := win0_5.stage (cfg0.slots t 5)
/-- It is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S512x1536 .f32 := win0_6.stage (cfg0.slots t 6)
/-- It is a whole buffer. -/
abbrev hs0_6 (t : Fin cfg0.N) : (ms0_6 t).IsWhole := hstage0_6 ((cfg0.slots t 6).cast nbuf0_6)
/-- Window 7's staging buffer at point `t`. -/
abbrev ms0_7 (t : Fin cfg0.N) : Memref sig .tc .vmem S1x1536 .f32 := win0_7.stage (cfg0.slots t 7)
/-- It is a whole buffer. -/
abbrev hs0_7 (t : Fin cfg0.N) : (ms0_7 t).IsWhole := hstage0_7 ((cfg0.slots t 7).cast nbuf0_7)
/-- Window 8's staging buffer at point `t`. -/
abbrev ms0_8 (t : Fin cfg0.N) : Memref sig .tc .vmem S128x16x512 .f32 := win0_8.stage (cfg0.slots t 8)
/-- It is a whole buffer. -/
abbrev hs0_8 (t : Fin cfg0.N) : (ms0_8 t).IsWhole := hstage0_8 ((cfg0.slots t 8).cast nbuf0_8)
/-- The state scratch. -/
abbrev scM0_0 : Memref sig .tc .vmem S16x512 .f32 := Memref.whole cc0_scratch0
/-- The gate input scratch. -/
abbrev scM0_1 : Memref sig .tc .vmem S128x16x1536 .f32 := Memref.whole cc0_scratch1

/-- The body's test holds at the first point only. -/
theorem first0_iff (t : Fin cfg0.N) : first0 (grid0.coords t) ↔ t.val = 0 := by
  have ht : t.val < 26 := Nat.lt_of_lt_of_eq t.isLt N_0
  have e0 : (grid0.coords t 0).val = t.val / 1 % 26 := Pipeline.Grid.coords_val t 0 (by decide) rfl
  simp only [first0, e0]
  have e1 : t.val / 1 % 26 = t.val := by omega
  rw [e1]
  word_cmp

variable (W : Dev nD → Valuation τ sig (Elt F))

/-- Window `w`'s block at point `t`, of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The state before point `n`: zero, then what the points leave one after another. -/
def stAt (c : Dev nD) : ℕ → Vec F S16x512 .f32
  | 0 => k0_pay4
  | n + 1 => if h : n < cfg0.N then gruLast (blk0 W c 0 ⟨n, h⟩) (blk0 W c 1 ⟨n, h⟩) (blk0 W c 2 ⟨n, h⟩) (blk0 W c 3 ⟨n, h⟩) (blk0 W c 4 ⟨n, h⟩) (blk0 W c 5 ⟨n, h⟩) (blk0 W c 6 ⟨n, h⟩) (blk0 W c 7 ⟨n, h⟩) (stAt c n) else stAt c n

/-- What point `t` leaves in the output window. -/
def outAt0 (c : Dev nD) (t : Fin cfg0.N) : Vec F S128x16x512 .f32 :=
  gruOut (blk0 W c 0 t) (blk0 W c 1 t) (blk0 W c 2 t) (blk0 W c 3 t) (blk0 W c 4 t) (blk0 W c 5 t) (blk0 W c 6 t) (blk0 W c 7 t) (stAt W c t.val)

/-- The state after a point is what the point leaves from the state before it. -/
theorem stAt_succ (c : Dev nD) (t : Fin cfg0.N) : stAt W c (t.val + 1) = gruLast (blk0 W c 0 t) (blk0 W c 1 t) (blk0 W c 2 t) (blk0 W c 3 t) (blk0 W c 4 t) (blk0 W c 5 t) (blk0 W c 6 t) (blk0 W c 7 t) (stAt W c t.val) := by
  rw [stAt, dif_pos t.isLt]

/-- What of the core's scoped buffers the region neither stages nor addresses: the other region's staging buffers. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The scoped buffers the region does not stage: its two scratches and the rest. -/
theorem scoped0 (c : Dev nD) : (Pipeline.scopedRest spec0 c : sProp 𝕄)
    = iprop((∃ d, owns (c : Thread nD τ) scM0_0 fullShare d) ∗ (∃ d, owns (c : Thread nD τ) scM0_1 fullShare d) ∗ rest0 (F := F) c) := by
  rw [scopedRest0_eq]; simp only [scM0_0, scM0_1, owns_whole]; rfl

/-- The state scratch before point `n`: at anything before the first, then at the state. -/
def scrAt (c : Dev nD) : ℕ → sProp 𝕄
  | 0 => iprop(∃ d, owns (c : Thread nD τ) scM0_0 fullShare d)
  | n + 1 => owns (c : Thread nD τ) scM0_0 fullShare (stAt W c (n + 1))

/-- The region's invariant before point `n`. -/
def Phi0 (c : Dev nD) (n : ℕ) : sProp 𝕄 :=
  iprop(scrAt W c n ∗ (∃ d, owns (c : Thread nD τ) scM0_1 fullShare d) ∗ rest0 (F := F) c ∗ ∃ r, prngReg c r)

/-- The region's proof data: each input's buffer at its block, the output's at what the recurrence leaves. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => blk0 W c 3 t
    | ⟨4, _⟩ => blk0 W c 4 t
    | ⟨5, _⟩ => blk0 W c 5 t
    | ⟨6, _⟩ => blk0 W c 6 t
    | ⟨7, _⟩ => blk0 W c 7 t
    | ⟨8, _⟩ => outAt0 W c t
  Φ t := Phi0 W c t.val
  q _ := fullShare
  owed _ := 0

/-- Every window's array is as the region is entered with. -/
theorem dat0_A (c : Dev nD) (w : Fin cfg0.W) : (dat0 W c).A w = W c (Proc.devRef .tc (Pipeline.arrRef spec0 w)) := by
  dsimp only [dat0]
/-- The body leaves window 0's block as it was. -/
theorem after0_0 (c : Dev nD) (t : Fin cfg0.N) : (dat0 W c).after 0 t = blk0 W c 0 t := by dsimp only [dat0]
/-- The body leaves window 1's block as it was. -/
theorem after0_1 (c : Dev nD) (t : Fin cfg0.N) : (dat0 W c).after 1 t = blk0 W c 1 t := by dsimp only [dat0]
/-- The body leaves window 2's block as it was. -/
theorem after0_2 (c : Dev nD) (t : Fin cfg0.N) : (dat0 W c).after 2 t = blk0 W c 2 t := by dsimp only [dat0]
/-- The body leaves window 3's block as it was. -/
theorem after0_3 (c : Dev nD) (t : Fin cfg0.N) : (dat0 W c).after 3 t = blk0 W c 3 t := by dsimp only [dat0]
/-- The body leaves window 4's block as it was. -/
theorem after0_4 (c : Dev nD) (t : Fin cfg0.N) : (dat0 W c).after 4 t = blk0 W c 4 t := by dsimp only [dat0]
/-- The body leaves window 5's block as it was. -/
theorem after0_5 (c : Dev nD) (t : Fin cfg0.N) : (dat0 W c).after 5 t = blk0 W c 5 t := by dsimp only [dat0]
/-- The body leaves window 6's block as it was. -/
theorem after0_6 (c : Dev nD) (t : Fin cfg0.N) : (dat0 W c).after 6 t = blk0 W c 6 t := by dsimp only [dat0]
/-- The body leaves window 7's block as it was. -/
theorem after0_7 (c : Dev nD) (t : Fin cfg0.N) : (dat0 W c).after 7 t = blk0 W c 7 t := by dsimp only [dat0]
/-- What the point leaves in the output window. -/
theorem after0_8 (c : Dev nD) (t : Fin cfg0.N) : (dat0 W c).after 8 t = outAt0 W c t := by dsimp only [dat0]
/-- Window 0's buffer holds its block at every point. -/
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
/-- Window 1's buffer holds its block at every point. -/
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
/-- Window 2's buffer holds its block at every point. -/
theorem before0_2 (c : Dev nD) (t : Fin cfg0.N) (d) : (dat0 W c).before 2 t d = blk0 W c 2 t :=
  ((dat0 W c).before_in_eq_fetched 2 rfl (fun _ => rfl) (fun _ _ _ => rfl) (fun t => by rw [after0_2]; unfold Dat.blockOf blk0; rw [dat0_A]; try rfl) t d).trans
    (by unfold Dat.fetched Dat.blockOf blk0; rw [dat0_A]; try rfl)
/-- Window 3's buffer holds its block at every point. -/
theorem before0_3 (c : Dev nD) (t : Fin cfg0.N) (d) : (dat0 W c).before 3 t d = blk0 W c 3 t :=
  ((dat0 W c).before_in_eq_fetched 3 rfl (fun _ => rfl) (fun _ _ _ => rfl) (fun t => by rw [after0_3]; unfold Dat.blockOf blk0; rw [dat0_A]; try rfl) t d).trans
    (by unfold Dat.fetched Dat.blockOf blk0; rw [dat0_A]; try rfl)
/-- Window 4's buffer holds its block at every point. -/
theorem before0_4 (c : Dev nD) (t : Fin cfg0.N) (d) : (dat0 W c).before 4 t d = blk0 W c 4 t :=
  ((dat0 W c).before_in_eq_fetched 4 rfl (fun _ => rfl) (fun _ _ _ => rfl) (fun t => by rw [after0_4]; unfold Dat.blockOf blk0; rw [dat0_A]; try rfl) t d).trans
    (by unfold Dat.fetched Dat.blockOf blk0; rw [dat0_A]; try rfl)
/-- Window 5's buffer holds its block at every point. -/
theorem before0_5 (c : Dev nD) (t : Fin cfg0.N) (d) : (dat0 W c).before 5 t d = blk0 W c 5 t :=
  ((dat0 W c).before_in_eq_fetched 5 rfl (fun _ => rfl) (fun _ _ _ => rfl) (fun t => by rw [after0_5]; unfold Dat.blockOf blk0; rw [dat0_A]; try rfl) t d).trans
    (by unfold Dat.fetched Dat.blockOf blk0; rw [dat0_A]; try rfl)
/-- Window 6's buffer holds its block at every point. -/
theorem before0_6 (c : Dev nD) (t : Fin cfg0.N) (d) : (dat0 W c).before 6 t d = blk0 W c 6 t :=
  ((dat0 W c).before_in_eq_fetched 6 rfl (fun _ => rfl) (fun _ _ _ => rfl) (fun t => by rw [after0_6]; unfold Dat.blockOf blk0; rw [dat0_A]; try rfl) t d).trans
    (by unfold Dat.fetched Dat.blockOf blk0; rw [dat0_A]; try rfl)
/-- Window 7's buffer holds its block at every point. -/
theorem before0_7 (c : Dev nD) (t : Fin cfg0.N) (d) : (dat0 W c).before 7 t d = blk0 W c 7 t :=
  ((dat0 W c).before_in_eq_fetched 7 rfl (fun _ => rfl) (fun _ _ _ => rfl) (fun t => by rw [after0_7]; unfold Dat.blockOf blk0; rw [dat0_A]; try rfl) t d).trans
    (by unfold Dat.fetched Dat.blockOf blk0; rw [dat0_A]; try rfl)

/-- What the body is called with at point `t`. -/
def bodyPre0 (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d))
    ∗ (∃ d, owns (c : Thread nD τ) (ms0_5 t) fullShare ((dat0 W c).before 5 t d))
    ∗ (∃ d, owns (c : Thread nD τ) (ms0_6 t) fullShare ((dat0 W c).before 6 t d))
    ∗ (∃ d, owns (c : Thread nD τ) (ms0_7 t) fullShare ((dat0 W c).before 7 t d))
    ∗ (∃ d, owns (c : Thread nD τ) (ms0_8 t) fullShare ((dat0 W c).before 8 t d)))

/-- What it returns. -/
def bodyPost0 (c : Dev nD) (t : Fin cfg0.N) : sProp 𝕄 :=
  iprop((dat0 W c).Φ t.succ ∗ (dat0 W c).owesAt () t.succ
    ∗ owns (c : Thread nD τ) (ms0_0 t) fullShare ((dat0 W c).after 0 t)
    ∗ owns (c : Thread nD τ) (ms0_1 t) fullShare ((dat0 W c).after 1 t)
    ∗ owns (c : Thread nD τ) (ms0_2 t) fullShare ((dat0 W c).after 2 t)
    ∗ owns (c : Thread nD τ) (ms0_3 t) fullShare ((dat0 W c).after 3 t)
    ∗ owns (c : Thread nD τ) (ms0_4 t) fullShare ((dat0 W c).after 4 t)
    ∗ owns (c : Thread nD τ) (ms0_5 t) fullShare ((dat0 W c).after 5 t)
    ∗ owns (c : Thread nD τ) (ms0_6 t) fullShare ((dat0 W c).after 6 t)
    ∗ owns (c : Thread nD τ) (ms0_7 t) fullShare ((dat0 W c).after 7 t)
    ∗ owns (c : Thread nD τ) (ms0_8 t) fullShare ((dat0 W c).after 8 t))

set_option maxHeartbeats 1600000 in
/-- The body at any point. -/
theorem sound0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5, before0_6, before0_7]
  rw [show (dat0 W c).owesAt () t.succ = (dat0 W c).owesAt () t.castSucc from rfl,
    after0_0, after0_1, after0_2, after0_3, after0_4, after0_5, after0_6, after0_7, after0_8,
    show (dat0 W c).Φ t.castSucc = Phi0 W c t.val from rfl, show (dat0 W c).Φ t.succ = Phi0 W c (t.val + 1) from rfl]
  unfold Phi0
  rw [show scrAt W c (t.val + 1) = owns (c : Thread nD τ) scM0_0 fullShare (stAt W c (t.val + 1)) from rfl, stAt_succ, outAt0]
  by_cases h0 : t.val = 0
  · rw [show stAt W c t.val = k0_pay4 from by rw [h0]; rfl, show scrAt W c t.val = iprop(∃ d, owns (c : Thread nD τ) scM0_0 fullShare d) from by rw [h0]; rfl]
    iintro ⟨⟨⟨%dS, HS0⟩, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r Idealize.ShloMosaic.frame (wpE (defs₀ (F := F)) Variants.none (c : Thread nD τ) none) Set.univ)
    isplitl [H0 H1 H2 H3 H4 H5 H6 H7 H8 HS0 HS1]
    · iapply (gru_body_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((first0_iff t).mpr h0) (blk0 W c 0 t) (blk0 W c 1 t) (blk0 W c 2 t) (blk0 W c 3 t) (blk0 W c 4 t) (blk0 W c 5 t) (blk0 W c 6 t) (blk0 W c 7 t) dS Set.univ)
      unfold gruPre
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iexact HS1
    iintro %_ HP
    unfold gruPost
    icases HP with ⟨H0, H1, H2, H3, H4, H5, H6, H7, H8, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show scrAt W c t.val = owns (c : Thread nD τ) scM0_0 fullShare (stAt W c t.val) from by
      obtain ⟨n, hn⟩ : ∃ n, t.val = n + 1 := ⟨t.val - 1, by omega⟩
      rw [hn]; rfl]
    iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r Idealize.ShloMosaic.frame (wpE (defs₀ (F := F)) Variants.none (c : Thread nD τ) none) Set.univ)
    isplitl [H0 H1 H2 H3 H4 H5 H6 H7 H8 HS0 HS1]
    · iapply (gru_body_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((first0_iff t).mp h)) (blk0 W c 0 t) (blk0 W c 1 t) (blk0 W c 2 t) (blk0 W c 3 t) (blk0 W c 4 t) (blk0 W c 5 t) (blk0 W c 6 t) (blk0 W c 7 t) (stAt W c t.val) Set.univ)
      unfold gruPre
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iexact HS1
    iintro %_ HP
    unfold gruPost
    icases HP with ⟨H0, H1, H2, H3, H4, H5, H6, H7, H8, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t` is the kernel body. -/
theorem row0 (t : Fin cfg0.N) : defs₀ (F := F) .tc cfg0.body (cfg0.bodyArgs t (cfg0.slots t)) = bodyAt0 t := by
  unfold defs₀; rw [Defs.onTc_tc]

/-- The region's body obligation. -/
theorem obligation0 (c : Dev nD) : BodyObligation (dat0 (F := F) W c) (defs₀ (F := F)) Variants.none () Set.univ := fun t => by
  rw [bigSep_W0, bigSep_W0, row0]
  exact triple_restated (sound0 W c t) rfl .rfl fun _ => .rfl

/-- The region is entered from its scoped buffers at anything and the generator register. -/
theorem in0 (c : Dev nD) : iprop(Pipeline.scopedRest spec0 c ∗ ∃ r, prngReg c r) ⊢ (dat0 (F := F) W c).Φ 0 := by
  rw [show (dat0 W c).Φ 0 = Phi0 W c 0 from rfl, scoped0]
  unfold Phi0
  rw [show scrAt W c 0 = iprop(∃ d, owns (c : Thread nD τ) scM0_0 fullShare d) from rfl]
  iintro ⟨⟨H0, H1, Hr⟩, Hg⟩
  isplitl [H0]; · iexact H0
  isplitl [H1]; · iexact H1
  isplitl [Hr]; · iexact Hr
  iexact Hg

/-- After the last point the invariant gives them back. -/
theorem out0 (c : Dev nD) : (dat0 (F := F) W c).Φ (Fin.last cfg0.N) ⊢ iprop(Pipeline.scopedRest spec0 c ∗ ∃ r, prngReg c r) := by
  rw [show (dat0 W c).Φ (Fin.last cfg0.N) = Phi0 W c (25 + 1) from rfl, scoped0]
  unfold Phi0
  rw [show scrAt W c (25 + 1) = owns (c : Thread nD τ) scM0_0 fullShare (stAt W c (25 + 1)) from rfl]
  iintro ⟨H0, H1, Hr, Hg⟩
  isplitr [Hg]
  · isplitl [H0]; · iexists _; iexact H0
    isplitl [H1]; · iexact H1
    iexact Hr
  iexact Hg

end Cert.KernelIdeal.Hand

end
-- ==== Proof.FcBody.lean ====
/- The body of the head kernel: what one grid point leaves in its output block. -/
module

public import proofs.«01_k».proof.Proof.GruBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `o` to `o + 832` of a block. -/
def rowsAt (o : ℕ) (inb : ∀ a, (![o, 0] : Fin 2 → ℕ) a + S832x512.size a ≤ S3328x512.size a) (x : Vec F S3328x512 .f32) : Vec F S832x512 .f32 :=
  fun y => x ((Rect.unit (s := S3328x512) ![o, 0] S832x512.size inb).emb y)

/-- Rows 0 to 832 of the output block. -/
def fcRows0 (x0 : Vec F S3328x512 .f32) (x1 : Vec F S512x512 .f32) (x2 : Vec F S1x512 .f32) (x3 : Vec F S512x512 .f32) (x4 : Vec F S1x512 .f32) : Vec F S1x832x512 .f32 := k1_pay4 x1 x3 (rowsAt 0 inb_S3328x512_S832x512_0_0 x0) x2 x4
/-- Rows 832 to 1664 of the output block. -/
def fcRows1 (x0 : Vec F S3328x512 .f32) (x1 : Vec F S512x512 .f32) (x2 : Vec F S1x512 .f32) (x3 : Vec F S512x512 .f32) (x4 : Vec F S1x512 .f32) : Vec F S1x832x512 .f32 := k1_pay6 (k1_pay5 x1 x3 (rowsAt 832 inb_S3328x512_S832x512_832_0 x0) x2) x4
/-- Rows 1664 to 2496 of the output block. -/
def fcRows2 (x0 : Vec F S3328x512 .f32) (x1 : Vec F S512x512 .f32) (x2 : Vec F S1x512 .f32) (x3 : Vec F S512x512 .f32) (x4 : Vec F S1x512 .f32) : Vec F S1x832x512 .f32 := k1_pay7 (k1_pay2 x1) (k1_pay3 x3) (rowsAt 1664 inb_S3328x512_S832x512_1664_0 x0) x2 x4
/-- Rows 2496 to 3300 of the output block. -/
def fcRows3 (x0 : Vec F S3328x512 .f32) (x1 : Vec F S512x512 .f32) (x2 : Vec F S1x512 .f32) (x3 : Vec F S512x512 .f32) (x4 : Vec F S1x512 .f32) : Vec F S1x804x512 .f32 := k1_pay1 (k1_pay8 (k1_pay2 x1) (k1_pay3 x3) (rowsAt 2496 inb_S3328x512_S832x512_2496_0 x0) x2) x4

/-- The index within the `n` rows from row `o` on. -/
def inRows (o n : ℕ) (y : S1x3300x512.Idx) (h : (y 1).val - o < n) : (⟨3, ![1, n, 512]⟩ : Shape).Idx :=
  fun a => match a with | 0 => (⟨0, Nat.one_pos⟩ : Fin 1) | 1 => (⟨(y 1).val - o, h⟩ : Fin n) | 2 => y 2

/-- The output block of one grid point, by its four groups of rows. -/
def fcOut (x0 : Vec F S3328x512 .f32) (x1 : Vec F S512x512 .f32) (x2 : Vec F S1x512 .f32) (x3 : Vec F S512x512 .f32) (x4 : Vec F S1x512 .f32) : Vec F S1x3300x512 .f32 := fun y =>
  if h0 : (y 1).val < 832 then fcRows0 x0 x1 x2 x3 x4 (inRows 0 832 y (by omega))
  else if h1 : (y 1).val < 1664 then fcRows1 x0 x1 x2 x3 x4 (inRows 832 832 y (by omega))
  else if h2 : (y 1).val < 2496 then fcRows2 x0 x1 x2 x3 x4 (inRows 1664 832 y (by omega))
  else fcRows3 x0 x1 x2 x3 x4 (inRows 2496 804 y (by have h : (y 1).val < 3300 := (y 1).isLt; omega))

section Run
variable (c : Dev nD) (i : grid1.Coords) (arg2 : Memref sig .tc .vmem S3328x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x3300x512 .f32) (harg7 : arg7.IsWhole)

/-- The four stores of the output block read back as the block. -/
theorem fc_reads (x0 : Vec F S3328x512 .f32) (x1 : Vec F S512x512 .f32) (x2 : Vec F S1x512 .f32) (x3 : Vec F S512x512 .f32) (x4 : Vec F S1x512 .f32) (f : BufTy.Contents (Elt F) arg7.view.ty) :
    arg7.view.read (Elt F) (arg7.view.writes (Elt F) f
      [⟨Rect.unit (s := S1x3300x512) ![0, 2496, 0] S1x804x512.size inb_S1x3300x512_S1x804x512_0_2496_0, fcRows3 x0 x1 x2 x3 x4⟩,
       ⟨Rect.unit (s := S1x3300x512) ![0, 1664, 0] S1x832x512.size inb_S1x3300x512_S1x832x512_0_1664_0, fcRows2 x0 x1 x2 x3 x4⟩,
       ⟨Rect.unit (s := S1x3300x512) ![0, 832, 0] S1x832x512.size inb_S1x3300x512_S1x832x512_0_832_0, fcRows1 x0 x1 x2 x3 x4⟩,
       ⟨Rect.unit (s := S1x3300x512) ![0, 0, 0] S1x832x512.size inb_S1x3300x512_S1x832x512_0_0_0, fcRows0 x0 x1 x2 x3 x4⟩])
      = fcOut x0 x1 x2 x3 x4 := by
  funext y
  have hy0 : (y 0).val = 0 := by have h : (y 0).val < 1 := (y 0).isLt; omega
  have hy : (y 1).val < 3300 := (y 1).isLt
  unfold fcOut
  have hmem : ∀ (o n : ℕ) (h : (y 1).val - o < n) (ho : o ≤ (y 1).val) (a : Fin 3), (y a).val = (![0, o, 0] : Fin 3 → ℕ) a + (inRows o n y h a).val := by
    intro o n h ho a
    fin_cases a
    · show (y 0).val = 0 + 0
      omega
    · show (y 1).val = o + ((y 1).val - o)
      omega
    · show (y 2).val = 0 + (y 2).val
      omega
  by_cases h3 : (y 1).val < 2496
  · rw [View.read_writes_cons_unit_of_not_mem (heq := rfl) (a := 1) (ha := Or.inl h3)]
    by_cases h2 : (y 1).val < 1664
    · rw [View.read_writes_cons_unit_of_not_mem (heq := rfl) (a := 1) (ha := Or.inl h2)]
      by_cases h1 : (y 1).val < 832
      · rw [View.read_writes_cons_unit_of_not_mem (heq := rfl) (a := 1) (ha := Or.inl h1), dif_pos h1]
        exact View.read_writes_cons_unit_of_mem _ _ _ _ _ _ _ rfl (hmem 0 832 _ (Nat.zero_le _))
      · rw [dif_neg h1, dif_pos h2]
        exact View.read_writes_cons_unit_of_mem _ _ _ _ _ _ _ rfl (hmem 832 832 _ (by omega))
    · rw [dif_neg (by omega), dif_neg h2, dif_pos h3]
      exact View.read_writes_cons_unit_of_mem _ _ _ _ _ _ _ rfl (hmem 1664 832 _ (by omega))
  · rw [dif_neg (by omega), dif_neg (by omega), dif_neg h3]
    exact View.read_writes_cons_unit_of_mem _ _ _ _ _ _ _ rfl (hmem 2496 804 _ (by omega))

/-- Loading 832 rows of a memref held at the contents that read `X`. -/
theorem load_rows {sp : Space} {arg : Memref sig .tc sp S3328x512 .f32} (h : arg.IsWhole) (X : Vec F S3328x512 .f32) (o : ℕ)
    (inb : ∀ a, (![o, 0] : Fin 2 → ℕ) a + S832x512.size a ≤ S3328x512.size a) :
    View.readAt (Elt F) arg.view (Rect.unit (s := S3328x512) ![o, 0] S832x512.size inb).toLoadRect (h.unread X) = rowsAt o inb X := by
  funext y
  rw [h.readAt_unread]
  rfl

/-- The head's body is called on its inputs at their contents and its output at some contents. -/
def fcPre (x0 : Vec F S3328x512 .f32) (x1 : Vec F S512x512 .f32) (x2 : Vec F S1x512 .f32) (x3 : Vec F S512x512 .f32) (x4 : Vec F S1x512 .f32) : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d))

/-- The head's body returns its inputs as they were and its output block. -/
def fcPost (x0 : Vec F S3328x512 .f32) (x1 : Vec F S512x512 .f32) (x2 : Vec F S1x512 .f32) (x3 : Vec F S512x512 .f32) (x4 : Vec F S1x512 .f32) : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (fcOut x0 x1 x2 x3 x4))

set_option maxHeartbeats 1000000 in
/-- The body leaves its inputs as they were and its output block at the head's values. -/
theorem fc_body (x0 : Vec F S3328x512 .f32) (x1 : Vec F S512x512 .f32) (x2 : Vec F S1x512 .f32) (x3 : Vec F S512x512 .f32) (x4 : Vec F S1x512 .f32) (E : Set ℕ) :
    fcPre c arg2 arg3 arg4 arg5 arg6 arg7 x0 x1 x2 x3 x4
      ⊢ wp frame (wpE (defs₀ (F := F)) Variants.none c none) E (cc1_fc_head i arg2 harg2 arg3 harg3 arg4 harg4 arg5 harg5 arg6 harg6 arg7 harg7)
          (fun _ => fcPost c arg2 arg3 arg4 arg5 arg6 arg7 x0 x1 x2 x3 x4) := by
  unfold fcPre fcPost
  simp only [cc1_fc_head_eq_skeleton]; unfold cc1_fc_head_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩⟩
  obtain rfl := harg2.eq_unread hf0; obtain rfl := harg3.eq_unread hf1; obtain rfl := harg4.eq_unread hf2; obtain rfl := harg5.eq_unread hf3; obtain rfl := harg6.eq_unread hf4
  sl_exec
  sl_step
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  refine Eq.trans ?_ (fc_reads arg7 x0 x1 x2 x3 x4 f5)
  refine congrArg (fun L => arg7.view.read (Elt F) (arg7.view.writes (Elt F) f5 L)) ?_
  have e1 := load_full harg3 x1 inb_S512x512_S512x512_0_0
  have e2 := load_full harg4 x2 inb_S1x512_S1x512_0_0
  have e3 := load_full harg5 x3 inb_S512x512_S512x512_0_0
  have e4 := load_full harg6 x4 inb_S1x512_S1x512_0_0
  unfold fcRows0 fcRows1 fcRows2 fcRows3
  rw [← load_rows harg2 x0, ← load_rows harg2 x0, ← load_rows harg2 x0, ← load_rows harg2 x0]
  conv_rhs => rw [← e1, ← e2, ← e3, ← e4]
  rfl

end Run

end Cert.KernelIdeal.Hand

end
-- ==== Proof.Region1.lean ====
/- The head kernel's region: its proof data over the buffers it is entered with, and its body obligation. -/
module

public import proofs.«01_k».proof.Proof.FcBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 0's staging buffer at point `t`. -/
abbrev ms1_0 (t : Fin cfg1.N) : Memref sig .tc .vmem S3328x512 .f32 := win1_0.stage (cfg1.slots t 0)
/-- It is a whole buffer. -/
abbrev hs1_0 (t : Fin cfg1.N) : (ms1_0 t).IsWhole := hstage1_0 ((cfg1.slots t 0).cast nbuf1_0)
/-- Window 1's staging buffer at point `t`. -/
abbrev ms1_1 (t : Fin cfg1.N) : Memref sig .tc .vmem S512x512 .f32 := win1_1.stage (cfg1.slots t 1)
/-- It is a whole buffer. -/
abbrev hs1_1 (t : Fin cfg1.N) : (ms1_1 t).IsWhole := hstage1_1 ((cfg1.slots t 1).cast nbuf1_1)
/-- Window 2's staging buffer at point `t`. -/
abbrev ms1_2 (t : Fin cfg1.N) : Memref sig .tc .vmem S1x512 .f32 := win1_2.stage (cfg1.slots t 2)
/-- It is a whole buffer. -/
abbrev hs1_2 (t : Fin cfg1.N) : (ms1_2 t).IsWhole := hstage1_2 ((cfg1.slots t 2).cast nbuf1_2)
/-- Window 3's staging buffer at point `t`. -/
abbrev ms1_3 (t : Fin cfg1.N) : Memref sig .tc .vmem S512x512 .f32 := win1_3.stage (cfg1.slots t 3)
/-- It is a whole buffer. -/
abbrev hs1_3 (t : Fin cfg1.N) : (ms1_3 t).IsWhole := hstage1_3 ((cfg1.slots t 3).cast nbuf1_3)
/-- Window 4's staging buffer at point `t`. -/
abbrev ms1_4 (t : Fin cfg1.N) : Memref sig .tc .vmem S1x512 .f32 := win1_4.stage (cfg1.slots t 4)
/-- It is a whole buffer. -/
abbrev hs1_4 (t : Fin cfg1.N) : (ms1_4 t).IsWhole := hstage1_4 ((cfg1.slots t 4).cast nbuf1_4)
/-- Window 5's staging buffer at point `t`. -/
abbrev ms1_5 (t : Fin cfg1.N) : Memref sig .tc .vmem S1x3300x512 .f32 := win1_5.stage (cfg1.slots t 5)
/-- It is a whole buffer. -/
abbrev hs1_5 (t : Fin cfg1.N) : (ms1_5 t).IsWhole := hstage1_5 ((cfg1.slots t 5).cast nbuf1_5)

variable (W : Dev nD → Valuation τ sig (Elt F))

/-- Window `w`'s block at point `t`, of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What point `t` leaves in the output window. -/
def outAt1 (c : Dev nD) (t : Fin cfg1.N) : Vec F S1x3300x512 .f32 :=
  fcOut (blk1 W c 0 t) (blk1 W c 1 t) (blk1 W c 2 t) (blk1 W c 3 t) (blk1 W c 4 t)

/-- The region's proof data: each input's buffer at its block, the output's at the head of it. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => outAt1 W c t
  Φ _ := Pipeline.ΦA spec1 c
  q _ := fullShare
  owed _ := 0

/-- Every window's array is as the region is entered with. -/
theorem dat1_A (c : Dev nD) (w : Fin cfg1.W) : (dat1 W c).A w = W c (Proc.devRef .tc (Pipeline.arrRef spec1 w)) := by
  dsimp only [dat1]
/-- The body leaves window 0's block as it was. -/
theorem after1_0 (c : Dev nD) (t : Fin cfg1.N) : (dat1 W c).after 0 t = blk1 W c 0 t := by dsimp only [dat1]
/-- The body leaves window 1's block as it was. -/
theorem after1_1 (c : Dev nD) (t : Fin cfg1.N) : (dat1 W c).after 1 t = blk1 W c 1 t := by dsimp only [dat1]
/-- The body leaves window 2's block as it was. -/
theorem after1_2 (c : Dev nD) (t : Fin cfg1.N) : (dat1 W c).after 2 t = blk1 W c 2 t := by dsimp only [dat1]
/-- The body leaves window 3's block as it was. -/
theorem after1_3 (c : Dev nD) (t : Fin cfg1.N) : (dat1 W c).after 3 t = blk1 W c 3 t := by dsimp only [dat1]
/-- The body leaves window 4's block as it was. -/
theorem after1_4 (c : Dev nD) (t : Fin cfg1.N) : (dat1 W c).after 4 t = blk1 W c 4 t := by dsimp only [dat1]
/-- What the point leaves in the output window. -/
theorem after1_5 (c : Dev nD) (t : Fin cfg1.N) : (dat1 W c).after 5 t = outAt1 W c t := by dsimp only [dat1]
/-- Window 0's buffer holds its block at every point. -/
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
/-- Window 1's buffer holds its block at every point. -/
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
/-- Window 2's buffer holds its block at every point. -/
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
/-- Window 3's buffer holds its block at every point. -/
theorem before1_3 (c : Dev nD) (t : Fin cfg1.N) (d) : (dat1 W c).before 3 t d = blk1 W c 3 t :=
  ((dat1 W c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
/-- Window 4's buffer holds its block at every point. -/
theorem before1_4 (c : Dev nD) (t : Fin cfg1.N) (d) : (dat1 W c).before 4 t d = blk1 W c 4 t :=
  ((dat1 W c).before_in_eq_fetched 4 rfl (fun _ => rfl) (fun _ _ _ => rfl) (fun t => by rw [after1_4]; unfold Dat.blockOf blk1; rw [dat1_A]; try rfl) t d).trans
    (by unfold Dat.fetched Dat.blockOf blk1; rw [dat1_A]; try rfl)

/-- What the body is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d))
    ∗ (∃ d, owns (c : Thread nD τ) (ms1_5 t) fullShare ((dat1 W c).before 5 t d)))

/-- What it returns. -/
def bodyPost1 (c : Dev nD) (t : Fin cfg1.N) : sProp 𝕄 :=
  iprop((dat1 W c).Φ t.succ ∗ (dat1 W c).owesAt () t.succ
    ∗ owns (c : Thread nD τ) (ms1_0 t) fullShare ((dat1 W c).after 0 t)
    ∗ owns (c : Thread nD τ) (ms1_1 t) fullShare ((dat1 W c).after 1 t)
    ∗ owns (c : Thread nD τ) (ms1_2 t) fullShare ((dat1 W c).after 2 t)
    ∗ owns (c : Thread nD τ) (ms1_3 t) fullShare ((dat1 W c).after 3 t)
    ∗ owns (c : Thread nD τ) (ms1_4 t) fullShare ((dat1 W c).after 4 t)
    ∗ owns (c : Thread nD τ) (ms1_5 t) fullShare ((dat1 W c).after 5 t))

set_option maxHeartbeats 1600000 in
/-- The body at any point. -/
theorem sound1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4]
  rw [show (dat1 W c).owesAt () t.succ = (dat1 W c).owesAt () t.castSucc from rfl,
    after1_0, after1_1, after1_2, after1_3, after1_4, after1_5,
    show (dat1 W c).Φ t.succ = (dat1 W c).Φ t.castSucc from rfl, outAt1]
  iintro ⟨HP, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [H0 H1 H2 H3 H4 H5]
  · iapply (fc_body c (grid1.coords t) (ms1_0 t) (hs1_0 t) (ms1_1 t) (hs1_1 t) (ms1_2 t) (hs1_2 t) (ms1_3 t) (hs1_3 t) (ms1_4 t) (hs1_4 t) (ms1_5 t) (hs1_5 t) (blk1 W c 0 t) (blk1 W c 1 t) (blk1 W c 2 t) (blk1 W c 3 t) (blk1 W c 4 t) Set.univ)
    unfold fcPre
    isplitl [H0]; · iexact H0
    isplitl [H1]; · iexact H1
    isplitl [H2]; · iexact H2
    isplitl [H3]; · iexact H3
    isplitl [H4]; · iexact H4
    iexists _; iexact H5
  iintro %_ HQ
  unfold fcPost
  icases HQ with ⟨H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the kernel body. -/
theorem row1 (t : Fin cfg1.N) : defs₀ (F := F) .tc cfg1.body (cfg1.bodyArgs t (cfg1.slots t)) = bodyAt1 t := by
  unfold defs₀; rw [Defs.onTc_tc]

/-- The region's body obligation. -/
theorem obligation1 (c : Dev nD) : BodyObligation (dat1 (F := F) W c) (defs₀ (F := F)) Variants.none () Set.univ := fun t => by
  rw [bigSep_W1, bigSep_W1, row1]
  exact triple_restated (sound1 W c t) rfl .rfl fun _ => .rfl

/-- The region is entered from its scoped buffers at anything and the generator register. -/
theorem in1 (c : Dev nD) : iprop(Pipeline.scopedRest spec1 c ∗ ∃ r, prngReg c r) ⊢ (dat1 (F := F) W c).Φ 0 := .rfl

/-- After the last point the invariant gives them back. -/
theorem out1 (c : Dev nD) : (dat1 (F := F) W c).Φ (Fin.last cfg1.N) ⊢ iprop(Pipeline.scopedRest spec1 c ∗ ∃ r, prngReg c r) := .rfl

end Cert.KernelIdeal.Hand

end
-- ==== Proof.Run.lean ====
/- The program's run: the host operations around the two regions, what each region leaves, and every unscoped buffer at the end. -/
module

public import proofs.«01_k».proof.Proof.Region0
public import proofs.«01_k».proof.Proof.Region1
public import proofs.«01_k».proof.Proof.Gen.KernelIdeal.Regions
public import Idealize.ShloMosaic.Lib.Pipeline.RegionArraysS
public import Idealize.ShloMosaic.Lib.Pipeline.Regions
public import Idealize.ShloMosaic.Adequacy
public import Idealize.ShloMosaic.Init

@[expose] public section

set_option maxRecDepth 2000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The buffers after the recurrence's region. -/
def aft0 (c : Dev nD) : Valuation τ sig (Elt F) := Pipeline.afterRegion (dat0 (V7 m) c) (V7 m c)
/-- The buffers the head's region is entered with. -/
def W9 (c : Dev nD) : Valuation τ sig (Elt F) := StableHlo.after hostOps1 (aft0 m c)
/-- The buffers after the head's region. -/
def aft1 (c : Dev nD) : Valuation τ sig (Elt F) := Pipeline.afterRegion (dat1 (W9 m) c) (W9 m c)
/-- What the regions leave. -/
def outs : Outs (F := F) := fun n r c => if n = 8 then aft0 m c (Proc.devRef .tc r) else aft1 m c (Proc.devRef .tc r)

/-- A valuation that differs from another at one buffer at most is the other updated there. -/
theorem eq_update (V V' : Valuation τ sig (Elt F)) (b₀ : DevRef τ sig) (h : ∀ b, b ≠ b₀ → V b = V' b) : V = Function.update V' b₀ (V b₀) := by
  funext b
  by_cases hb : b = b₀
  · subst hb; rw [Function.update_self]
  · rw [Function.update_of_ne hb, h b hb]

/-- A region changes its output windows' arrays only. -/
theorem afterRegion_keep {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (b : DevRef τ sig) (h : ∀ w, (cfg.win w).isOut = true → b ≠ Proc.devRef .tc (Pipeline.arrRef cfg.spec w)) :
    Pipeline.afterRegion dat V b = V b := by
  by_cases hb : ∃ w, b = Proc.devRef .tc (Pipeline.arrRef cfg.spec w)
  · obtain ⟨w, rfl⟩ := hb
    refine Pipeline.afterRegion_keeps dat V hinj hA _ fun w' e => ?_
    by_contra hw
    exact h w' (by simpa using hw) (by rw [e])
  · unfold Pipeline.afterRegion
    rw [dif_neg hb]

/-- After the first region only its output array has changed. -/
theorem aft0_eq (c : Dev nD) : aft0 m c = V8 m (outs m) c :=
  eq_update _ _ _ fun b hb => afterRegion_keep _ _ launch0.win.arr_inj (fun w => dat0_A (V7 m) c w) b fun w hw => by
    have : w = 8 := by revert hw; revert w; decide
    subst this; exact hb

/-- The head's region is entered with those buffers, the states reshaped. -/
theorem W9_eq (c : Dev nD) : W9 m c = V9 m (outs m) c := by unfold W9; rw [aft0_eq]

/-- After the second region only its output array has changed. -/
theorem aft1_eq (c : Dev nD) : aft1 m c = V10 m (outs m) c := by
  have h : V10 m (outs m) c = Function.update (W9 m c) main_v144 (aft1 m c main_v144) := by
    rw [W9_eq]; rfl
  rw [h]
  exact eq_update _ _ _ fun b hb => afterRegion_keep _ _ launch1.win.arr_inj (fun w => dat1_A (W9 m) c w) b fun w hw => by
    have : w = 5 := by revert hw; revert w; decide
    subst this; exact hb

/-- The regions' proof data. -/
def pdats : (p : Fin 2) → (c : Dev nD) → Dat τ (Elt F) Unit ℕ (UR sig nD τ) ℕ (cfgs p) c
  | 0 => dat0 (V7 m)
  | 1 => dat1 (W9 m)

/-- Every semaphore of a TensorCore is known at the one index. -/
def lvls (g : GSem nD τ sig) : Finset Unit := if g.1.2 = .tc then Finset.univ else ∅

/-- What a core holds beside its buffers between two items: it owes nothing, and its generator register. -/
def beside (c : Dev nD) : sProp 𝕄 :=
  iprop((∃ Wd, owes (c : Thread nD τ) (0 : CellTallies nD τ sig Unit) Wd) ∗ (∃ r, prngReg c r) ∗ emp)

/-- The levels the two regions use. -/
theorem cut (p : Fin 2) : Pipeline.LevelCut (pcfgs (F := F)) adm () lvls (fun _ _ => (0 : ℕ)) p (fun _ => 0) (fun _ => 0) where
  hι _ _ _ := by unfold lvls; rw [if_pos rfl]; exact Finset.mem_univ _
  hιb _ _ _ := le_refl _
  hD _ _ _ h := absurd h (lt_irrefl _)

/-- The recurrence's region as an item of the program. -/
def R0 : RegionSeg (pcfgs (F := F)) adm (pdats m) () defs₀ Variants.none lvls (fun _ _ => (0 : ℕ)) 0 :=
  RegionSeg.ofHeldIn (pcfgs (F := F)) adm (pdats m) () defs₀ Variants.none lvls (fun _ _ => (0 : ℕ)) 0 (fun _ => 0)
    (Pipeline.ucRefs τ sig) (fun c => iprop(∃ r, prngReg c r)) (fun c => iprop(∃ r, prngReg c r)) launch0.toP rfl
    (fun c => (obligation0 (V7 m) c).loose) (fun _ _ => rfl) (fun _ => rfl)
    (fun c w => (pdats m 0 c).share_full (fun _ => rfl) w) (fun c => in0 (V7 m) c) (fun c => out0 (V7 m) c) (fun _ => 0) (cut 0) (fun _ => iprop(emp))
    (V7 m) (fun c w => dat0_A (V7 m) c w)

/-- The head's region as an item of the program. -/
def R1 : RegionSeg (pcfgs (F := F)) adm (pdats m) () defs₀ Variants.none lvls (fun _ _ => (0 : ℕ)) 1 :=
  RegionSeg.ofHeldIn (pcfgs (F := F)) adm (pdats m) () defs₀ Variants.none lvls (fun _ _ => (0 : ℕ)) 1 (fun _ => 0)
    (Pipeline.ucRefs τ sig) (fun c => iprop(∃ r, prngReg c r)) (fun c => iprop(∃ r, prngReg c r)) launch1.toP rfl
    (fun c => (obligation1 (W9 m) c).loose) (fun _ _ => rfl) (fun _ => rfl)
    (fun c w => (pdats m 1 c).share_full (fun _ => rfl) w) (fun c => in1 (W9 m) c) (fun c => out1 (W9 m) c) (fun _ => 0) (cut 1) (fun _ => iprop(emp))
    (W9 m) (fun c w => dat1_A (W9 m) c w)

/-- Every window's array is one of the buffers the launch holds. -/
theorem arrs_sub (p : Fin 2) : Pipeline.arrRefs (τ := τ) (pcfgs (F := F) p).spec ⊆ Pipeline.ucRefs τ sig :=
  match p with
  | 0 => Pipeline.arrRefs_sub_ucRefs _ launch0.win.arr_unscoped
  | 1 => Pipeline.arrRefs_sub_ucRefs _ launch1.win.arr_unscoped

/-- The buffers held before the first region give the region's precondition. -/
theorem pre0 (c : Dev nD) : iprop(StableHlo.held (c : Thread nD τ) (Pipeline.ucRefs τ sig) (V7 m c) ∗ beside c) ⊢ (R0 m).pre c := by
  unfold R0
  exact RegionSeg.ofHeldIn_pre (pcs := pcfgs (F := F)) (a := adm) (pdats := pdats m) (p := 0) (D := fun _ => 0) (R := fun _ => iprop(emp))
    (X := fun c => iprop(∃ r, prngReg c r)) (W := V7 m) (arrs_sub 0) c

/-- The first region's postcondition gives the buffers held after it. -/
theorem post0 (c : Dev nD) : (R0 m).post c ⊢ iprop(StableHlo.held (c : Thread nD τ) (Pipeline.ucRefs τ sig) (V8 m (outs m) c) ∗ beside c) := by
  rw [← aft0_eq]
  exact RegionSeg.ofHeldIn_post (arrs_sub 0) c

/-- The buffers held before the second region give the region's precondition. -/
theorem pre1 (c : Dev nD) : iprop(StableHlo.held (c : Thread nD τ) (Pipeline.ucRefs τ sig) (V9 m (outs m) c) ∗ beside c) ⊢ (R1 m).pre c := by
  rw [← W9_eq]
  unfold R1
  exact RegionSeg.ofHeldIn_pre (pcs := pcfgs (F := F)) (a := adm) (pdats := pdats m) (p := 1) (D := fun _ => 0) (R := fun _ => iprop(emp))
    (X := fun c => iprop(∃ r, prngReg c r)) (W := W9 m) (arrs_sub 1) c

/-- The second region's postcondition gives the buffers held after it. -/
theorem post1 (c : Dev nD) : (R1 m).post c ⊢ iprop(StableHlo.held (c : Thread nD τ) (Pipeline.ucRefs τ sig) (V10 m (outs m) c) ∗ beside c) := by
  rw [← aft1_eq]
  exact RegionSeg.ofHeldIn_post (arrs_sub 1) c

-- the run's implicit arguments are found by unification, which unfolds plain definitions in a metavariable's type
set_option backward.isDefEq.respectTransparency.types false in
/-- From any memory with zero counters every weakly fair execution of the program terminates, every final state holds each unscoped
    buffer at the last valuation, and every semaphore counter is zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem (c, b) = V10 m (outs m) c b) ∧ r.2.sem = fun _ => 0) := by
  refine Pipeline.θ_run_regions_kit_dev_sems (pcfgs (F := F)) adm (pdats m) () cellOf_inj emb₁ defs₀ Variants.none lvls (fun _ _ => (0 : ℕ)) m ρ main
    (segs m (outs m) Variants.none lvls (fun _ _ => (0 : ℕ)) (fun _ => beside) () (pdats m) (R0 m) (R1 m))
    (fun c Q => by
      rewrite [main_chain c, Seg.run_eq_chain,
        show (segs m (outs m) Variants.none lvls (fun _ _ => (0 : ℕ)) (fun _ => beside) () (pdats m) (R0 m) (R1 m) c).map Seg.prog = [
          StableHlo.seq hostOps0, StableHlo.seq hostOps0_1, StableHlo.seq hostOps0_2, StableHlo.seq hostOps0_3, StableHlo.seq hostOps0_4,
          StableHlo.seq hostOps0_5, StableHlo.seq hostOps0_6, Prog.lift (.customCall (Pipeline.entry 0) ()), StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g h => by unfold lvls; rw [if_neg h]) (fun _ => iprop(emp)) (initOf (Pipeline.cells cfgs cellOf_inj) (Pipeline.launchToks cfgs cellOf_inj))
    (by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V10 m (outs m) c))
    (hch := fun c => ⟨.rfl, .rfl, .rfl, .rfl, .rfl, .rfl, .rfl, pre0 m c, post0 m c, pre1 m c, (post1 m c).trans (sep_mono .rfl ?_)⟩)
    (hinit := ?_) (QY := fun c s => ∀ b ∈ Pipeline.ucRefs τ sig, s.mem (c, b) = V10 m (outs m) c b)
    (hfin := fun c s' => ?_) (hQ := fun _ h hz => ⟨h, funext fun g => hz g (.inr (regions_no_unscoped g.2))⟩)
  · unfold beside
    iintro ⟨H, -, -⟩
    iexact H
  · refine Pipeline.initEach lvls (fun _ _ => (0 : ℕ)) fun c => ?_
    rw [show unscopedBufs c (fun b => m ((c : Thread nD τ).loc b)) = StableHlo.held (c : Thread nD τ) (Pipeline.ucRefs τ sig) (V0 m c) from Pipeline.unscopedBufs_held c (V0 m c)]
    unfold beside
    iintro ⟨⟨Hh, -, HO, -, Hg, -⟩, -⟩
    imodintro
    isplitl [Hh]; · iexact Hh
    isplitl [HO]; · iexists ∅; iexact HO
    isplitl [Hg]; · iexists _; iexact Hg
    iempintro
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact h
    · iexact HSI

/-- An unscoped buffer of a TensorCore is among those the run tracks. -/
theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; exact Bool.false_ne_true⟩

/-- The run's arguments stay as launched, its result is what the head's region leaves, and every semaphore counter ends at zero. -/
theorem run_result (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_v144) = (dat1 (W9 m) c).arrAt 5 cfg1.N)
      ∧ r.2.sem = fun _ => 0) := by
  refine (θ_run defs _ _).mono (fun r h => ⟨fun c => ?_, h.2⟩) (run_all m ρ)
  have hb := h.1 c
  exact ⟨(hb _ (mem_uc main_arg0 rfl)).trans (V10_main_arg0 m (outs m) c),
    (hb _ (mem_uc main_arg1 rfl)).trans (V10_main_arg1 m (outs m) c),
    (hb _ (mem_uc main_arg2 rfl)).trans (V10_main_arg2 m (outs m) c),
    (hb _ (mem_uc main_arg3 rfl)).trans (V10_main_arg3 m (outs m) c),
    (hb _ (mem_uc main_arg4 rfl)).trans (V10_main_arg4 m (outs m) c),
    (hb _ (mem_uc main_arg5 rfl)).trans (V10_main_arg5 m (outs m) c),
    (hb _ (mem_uc main_arg6 rfl)).trans (V10_main_arg6 m (outs m) c),
    (hb _ (mem_uc main_arg7 rfl)).trans (V10_main_arg7 m (outs m) c),
    (hb _ (mem_uc main_arg8 rfl)).trans (V10_main_arg8 m (outs m) c),
    (hb _ (mem_uc main_arg9 rfl)).trans (V10_main_arg9 m (outs m) c),
    (hb _ (mem_uc main_arg10 rfl)).trans (V10_main_arg10 m (outs m) c),
    (hb _ (mem_uc main_arg11 rfl)).trans (V10_main_arg11 m (outs m) c),
    (hb _ (mem_uc main_arg12 rfl)).trans (V10_main_arg12 m (outs m) c),
    (hb _ (mem_uc main_v144 rfl)).trans ((congrFun (aft1_eq m c) main_v144).symm.trans (Pipeline.afterRegion_arr (dat1 (W9 m) c) (W9 m c) launch1.win.arr_inj 5))⟩

end Cert.KernelIdeal.Hand

end
-- ==== Proof.Frames.lean ====
/- The frames: each program runs, its arguments end unchanged and every semaphore counter ends at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.WordRun
public import proofs.«01_k».proof.Proof.Run

@[expose] public section

noncomputable section

namespace Cert.Proof

open Idealize.ShloMosaic Idealize.SL.Sem

/-- The kernel's frame: its run at the words, without the result. -/
theorem frame_kernel : Cert.quiescent_Kernel := fun m ρ _ =>
  (θ_run Cert.Kernel.defs _ _).mono (fun _ h => ⟨fun c =>
    ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1,
      (h.1 c).2.2.2.2.2.2.2.2.1, (h.1 c).2.2.2.2.2.2.2.2.2.1, (h.1 c).2.2.2.2.2.2.2.2.2.2.1, (h.1 c).2.2.2.2.2.2.2.2.2.2.2.1,
      (h.1 c).2.2.2.2.2.2.2.2.2.2.2.2.1⟩, h.2⟩)
    (Cert.Kernel.Hand.run_result (F := Bits) m ρ)

/-- The idealized kernel's frame: its run at the reals, without the result. -/
theorem frame_ideal : Cert.quiescent_KernelIdeal := fun m ρ _ =>
  (θ_run Cert.KernelIdeal.defs _ _).mono (fun _ h => ⟨fun c =>
    ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1,
      (h.1 c).2.2.2.2.2.2.2.2.1, (h.1 c).2.2.2.2.2.2.2.2.2.1, (h.1 c).2.2.2.2.2.2.2.2.2.2.1, (h.1 c).2.2.2.2.2.2.2.2.2.2.2.1,
      (h.1 c).2.2.2.2.2.2.2.2.2.2.2.2.1⟩, h.2⟩)
    (Cert.KernelIdeal.Hand.run_result (F := Ideal) m ρ)

/-- The reference's frame: its run, without the result; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Upsample.lean ====
/- The upsampling stages as sums over the naturals, and why averaging the operator's rows first and multiplying by the
   signal afterwards gives the same extended reals as averaging the signal itself. -/
module

public import Idealize.ShloMosaic.PureOps.Ideal
public import Idealize.ShloMosaic.Lib.IdealHost
public import Idealize.ShloMosaic.Lib.Pointwise

@[expose] public section

noncomputable section

namespace Cert.Upsample

open Idealize.ShloMosaic Finset

/-- A signal of `n` samples, each repeated `s` times, between `s` zeros on either side. -/
def rep (n s : ℕ) (g : ℕ → EReal) (q : ℕ) : EReal := if s ≤ q ∧ q < s + n * s then g ((q - s) / s) else 0

/-- One stage as the reference has it: every tap is weighted, then the taps are added. -/
def tapStage (k : EReal) (n s : ℕ) (g : ℕ → EReal) (p : ℕ) : EReal := ∑ d ∈ Finset.range (2 * s + 1), rep n s g (p + d) * k

/-- One stage as the kernel's operator has it: the taps are added, then their sum is weighted. -/
def sumStage (k : EReal) (n s : ℕ) (g : ℕ → EReal) (p : ℕ) : EReal := (∑ d ∈ Finset.range (2 * s + 1), rep n s g (p + d)) * k

/-- Repeating and padding keep a signal nonnegative. -/
theorem rep_nonneg {n s : ℕ} {g : ℕ → EReal} (hg : ∀ p, 0 ≤ g p) (q : ℕ) : 0 ≤ rep n s g q := by
  unfold rep; split
  · exact hg _
  · exact le_rfl

/-- A stage keeps a signal nonnegative. -/
theorem sumStage_nonneg {k : EReal} (hk : 0 ≤ k) {n s : ℕ} {g : ℕ → EReal} (hg : ∀ p, 0 ≤ g p) (p : ℕ) :
    0 ≤ sumStage k n s g p :=
  mul_nonneg (Finset.sum_nonneg fun _ _ => rep_nonneg hg _) hk

/-- A factor on the right distributes over a finite sum of nonnegative extended reals. -/
theorem sum_mul_of_nonneg {ι : Type} (S : Finset ι) (a : ι → EReal) (ha : ∀ i, 0 ≤ a i) (c : EReal) :
    (∑ i ∈ S, a i) * c = ∑ i ∈ S, a i * c := by
  classical
  induction S using Finset.induction_on with
  | empty => simp
  | insert i S hi ih =>
    rw [Finset.sum_insert hi, Finset.sum_insert hi, EReal.right_distrib_of_nonneg (ha i) (Finset.sum_nonneg fun _ _ => ha _), ih]

/-- A finite nonnegative factor distributes over every finite sum of extended reals. -/
theorem sum_mul_of_factor {ι : Type} (S : Finset ι) (a : ι → EReal) {k : EReal} (hk : 0 ≤ k) (hk' : k ≠ ⊤) :
    (∑ i ∈ S, a i) * k = ∑ i ∈ S, a i * k := by
  classical
  induction S using Finset.induction_on with
  | empty => simp
  | insert i S hi ih =>
    rw [Finset.sum_insert hi, Finset.sum_insert hi, EReal.right_distrib_of_nonneg_of_ne_top hk hk', ih]

/-- Repeating and padding commute with a combination of signals. -/
theorem rep_comb {J n s : ℕ} (U : Fin J → ℕ → EReal) (f : Fin J → EReal) (F : ℕ → EReal)
    (h : ∀ p, p < n → F p = ∑ j, U j p * f j) (q : ℕ) : rep n s F q = ∑ j, rep n s (U j) q * f j := by
  unfold rep
  by_cases hq : s ≤ q ∧ q < s + n * s
  · simp only [if_pos hq]
    refine h _ ?_
    rw [Nat.div_lt_iff_lt_mul (by rcases Nat.eq_zero_or_pos s with rfl | h0; · omega
                                  exact h0)]
    omega
  · simp only [if_neg hq, zero_mul, Finset.sum_const_zero]

/-- One stage keeps the combination: weighting tap by tap the combined signal is combining the operator's stages. -/
theorem stage_comb {J n s : ℕ} {k : EReal} (hk : 0 ≤ k) (hk' : k ≠ ⊤) (U : Fin J → ℕ → EReal) (hU : ∀ j p, 0 ≤ U j p)
    (f : Fin J → EReal) (F : ℕ → EReal) (h : ∀ p, p < n → F p = ∑ j, U j p * f j) (p : ℕ) :
    tapStage k n s F p = ∑ j, sumStage k n s (U j) p * f j := by
  unfold tapStage sumStage
  have e1 : ∀ j, ((∑ d ∈ Finset.range (2 * s + 1), rep n s (U j) (p + d)) * k) * f j
      = ∑ d ∈ Finset.range (2 * s + 1), rep n s (U j) (p + d) * f j * k := fun j => by
    rw [mul_assoc, mul_comm k, ← mul_assoc, sum_mul_of_nonneg _ _ (fun _ => rep_nonneg (hU j) _), sum_mul_of_factor _ _ hk hk']
  simp only [e1, rep_comb U f F h]
  rw [Finset.sum_comm]
  exact Finset.sum_congr rfl fun d _ => sum_mul_of_factor _ _ hk hk'

/-- An array of three axes read at its three coordinates. -/
def at3 {a b c : ℕ} (x : (⟨3, ![a, b, c]⟩ : Shape).Idx → EReal) (i : Fin a) (j : Fin b) (k : Fin c) : EReal := x (ix3 i j k)
/-- An array of two axes read at its two coordinates. -/
def at2 {a b : ℕ} (x : (⟨2, ![a, b]⟩ : Shape).Idx → EReal) (i : Fin a) (j : Fin b) : EReal := x (ix2 i j)
/-- An array of one axis read at its coordinate. -/
def at1 {a : ℕ} (x : (⟨1, ![a]⟩ : Shape).Idx → EReal) (i : Fin a) : EReal := x (ix1 i)
/-- A matrix of words read at its two coordinates. -/
def word2 {a b : ℕ} (x : (⟨2, ![a, b]⟩ : Shape).Idx → BitVec 32) (i : Fin a) (j : Fin b) : BitVec 32 := x (ix2 i j)
/-- A filter of `a` taps, held with three unit axes, read at a tap. -/
def tap {a : ℕ} (x : (⟨4, ![1, 1, 1, a]⟩ : Shape).Idx → EReal) (d : Fin a) : EReal := x (ix4 0 0 0 d)

/-- The padded, repeated signal at an index, as a program reads it. -/
theorem rep_of_dite {n s L : ℕ} (g : ℕ → EReal) (hL : L = n * s) (x : Fin L → EReal) (hx : ∀ j, x j = g (j.val / s)) (q : ℕ) :
    (if h : s ≤ q ∧ q - s < L then x ⟨q - s, h.2⟩ else 0) = rep n s g q := by
  subst hL
  unfold rep
  by_cases h : s ≤ q ∧ q - s < n * s
  · rw [dif_pos h, if_pos (by omega), hx]
  · rw [dif_neg h, if_neg (by omega)]

/-- The word zero as a float is zero. -/
theorem zero_word : (FloatOps.sitofp (F := Ideal) FTy.f32 0#32 : EReal) = 0 := by
  show (((0#32 : BitVec 32).toInt : ℝ) : EReal) = 0
  simp

/-- The truth of an equation of words as a float. -/
theorem word_eq (a b : BitVec 32) : (FloatOps.uitofp (F := Ideal) FTy.f32 (IntOp.cmpi CmpIPredicate.eq a b) : EReal) = if a = b then 1 else 0 := by
  show (((IntOp.cmpi CmpIPredicate.eq a b).toNat : ℝ) : EReal) = _
  by_cases h : a = b <;> simp [IntOp.cmpi, h]

/-- The weight of the first two stages, the word of 1/11. -/
def k11 : EReal := Ideal.ofBits .f32 0x3DBA2E8C#32
/-- The weight of the third stage, the word of 1/23. -/
def k23 : EReal := Ideal.ofBits .f32 0x3D321643#32

/-- The first weight is nonnegative. -/
theorem k11_nonneg : 0 ≤ k11 := by
  unfold k11; simp [Ideal.ofBits, Ideal.ieee]; norm_cast; positivity
/-- The first weight is finite. -/
theorem k11_ne_top : k11 ≠ ⊤ := by
  unfold k11; simp [Ideal.ofBits, Ideal.ieee]; exact EReal.coe_ne_top _

/-- The second weight is nonnegative. -/
theorem k23_nonneg : 0 ≤ k23 := by
  unfold k23; simp [Ideal.ofBits, Ideal.ieee]; norm_cast; positivity
/-- The second weight is finite. -/
theorem k23_ne_top : k23 ≠ ⊤ := by
  unfold k23; simp [Ideal.ofBits, Ideal.ieee]; exact EReal.coe_ne_top _

/-- A unit impulse at sample `j`. -/
def unitAt (j p : ℕ) : EReal := if p = j then 1 else 0
/-- Row `j` of the operator after the first stage. -/
def op1 (j : ℕ) : ℕ → EReal := sumStage k11 16 5 (unitAt j)
/-- Row `j` of the operator after the second stage. -/
def op2 (j : ℕ) : ℕ → EReal := sumStage k11 80 5 (op1 j)
/-- Row `j` of the operator after the third stage. -/
def op3 (j : ℕ) : ℕ → EReal := sumStage k23 400 11 (op2 j)

/-- A signal after the first stage. -/
def up1 (f : ℕ → EReal) : ℕ → EReal := tapStage k11 16 5 f
/-- A signal after the second stage. -/
def up2 (f : ℕ → EReal) : ℕ → EReal := tapStage k11 80 5 (up1 f)
/-- A signal after the third stage. -/
def up3 (f : ℕ → EReal) : ℕ → EReal := tapStage k23 400 11 (up2 f)

/-- The upsampled signal is the operator applied to the signal. -/
theorem up3_eq (f : ℕ → EReal) (p : ℕ) : up3 f p = ∑ j : Fin 16, op3 j.val p * f j.val := by
  have h0 : ∀ q, q < 16 → f q = ∑ j : Fin 16, unitAt j.val q * f j.val := fun q hq => by
    rw [Finset.sum_eq_single (⟨q, hq⟩ : Fin 16)]
    · simp [unitAt]
    · intro j _ hj
      rw [unitAt, if_neg (fun e => hj (Fin.ext e.symm)), zero_mul]
    · exact fun h => absurd (Finset.mem_univ _) h
  have n0 : ∀ j q, 0 ≤ unitAt j q := fun j q => by unfold unitAt; split <;> simp
  have n1 : ∀ j q, 0 ≤ op1 j q := fun j q => sumStage_nonneg k11_nonneg (n0 j) q
  have n2 : ∀ j q, 0 ≤ op2 j q := fun j q => sumStage_nonneg k11_nonneg (n1 j) q
  exact stage_comb k23_nonneg k23_ne_top (fun j : Fin 16 => op2 j.val) (fun j => n2 j.val) (fun j => f j.val) _ (fun q _ =>
    stage_comb k11_nonneg k11_ne_top (fun j : Fin 16 => op1 j.val) (fun j => n1 j.val) (fun j => f j.val) _ (fun q _ =>
      stage_comb k11_nonneg k11_ne_top (fun j : Fin 16 => unitAt j.val) (fun j => n0 j.val) (fun j => f j.val) _ h0 q) q) p

end Cert.Upsample

end
-- ==== Proof.Averaging.lean ====
/- The precondition: its shape relations hold, and where it holds every tap of the three filters is its stage's weight. -/
module

public import proofs.«01_k».proof.Defs
public import proofs.«01_k».proof.Proof.Upsample
public import Idealize.ShloMosaic.Lib.ReduceAll
public import Idealize.ShloMosaic.Lib.Affine

@[expose] public section

noncomputable section

namespace Cert.Pre_averaging

open Idealize.ShloMosaic Idealize.SL.Sem Cert.Upsample

/-- The shape relations the precondition's operations take. -/
theorem facts : Cert.Pre_averaging.Facts where
  bcast_S_S1x1x1x11 := by decide
  reducesTo_S1x1x1x11_S_d0_1_2_3 := by decide
  h_S_ := by decide
  bcast_S_S1x1x1x23 := by decide
  reducesTo_S1x1x1x23_S_d0_1_2_3 := by decide

/-- Equality that compares true is equality. -/
theorem eq_of_oeq (x y : EReal) (h : Ideal.cmp CmpFPredicate.oeq x y = 1#1) : x = y := by
  by_contra hne
  have e : Ideal.cmp CmpFPredicate.oeq x y = 0#1 := by simp [Ideal.cmp, hne]
  rw [e] at h
  exact absurd h (by decide)

/-- Where the precondition holds, every tap is its stage's weight. -/
theorem taps (m : (ℓ : Loc Cert.KernelIdeal.nD Cert.KernelIdeal.τ Cert.KernelIdeal.sig) → Buf (Elt Ideal) ℓ)
    (h : Cert.Pre_KernelIdeal_averaging (hPre_averaging := facts) m) (c : Dev Cert.KernelIdeal.nD) :
    (∀ d, tap (m ((c.tc : Thread Cert.KernelIdeal.nD Cert.KernelIdeal.τ).loc Cert.KernelIdeal.main_arg2)) d = k11)
      ∧ (∀ d, tap (m ((c.tc : Thread Cert.KernelIdeal.nD Cert.KernelIdeal.τ).loc Cert.KernelIdeal.main_arg3)) d = k11)
      ∧ ∀ d, tap (m ((c.tc : Thread Cert.KernelIdeal.nD Cert.KernelIdeal.τ).loc Cert.KernelIdeal.main_arg4)) d = k23 := by
  have hc := congrFun (h c) ix0
  dsimp only [fn] at hc
  obtain ⟨h23, h4⟩ := IntOp.andi_eq_one.1 hc
  obtain ⟨h2, h3⟩ := IntOp.andi_eq_one.1 h23
  refine ⟨fun d => ?_, fun d => ?_, fun d => ?_⟩
  · exact eq_of_oeq _ _ (Host.reduce_andi_all _ _ _ _ _ h2 (ix4 0 0 0 d))
  · exact eq_of_oeq _ _ (Host.reduce_andi_all _ _ _ _ _ h3 (ix4 0 0 0 d))
  · exact eq_of_oeq _ _ (Host.reduce_andi_all _ _ _ _ _ h4 (ix4 0 0 0 d))

end Cert.Pre_averaging
end
-- ==== Proof.KerEntry.lean ====
/- What the kernel's host operations leave in the buffers its two launches read. -/
module

public import proofs.«01_k».proof.Proof.Gen.KernelIdeal.Launch
public import proofs.«01_k».proof.Proof.Upsample
public import Idealize.ShloMosaic.Lib.StableHlo.RunRead
public import Idealize.ShloMosaic.Lib.Pointwise
public import Idealize.ShloMosaic.Lib.Routing.OpsSet
public import Idealize.ShloMosaic.Lib.Routing.OpsPair

@[expose] public section

noncomputable section

namespace Cert.KernelIdeal.Hand

open Idealize.ShloMosaic Idealize.ShloMosaic.TcCoe Idealize.SL.Sem Idealize.ShloMosaic.StableHlo
open Cert.KernelIdeal Cert.KernelIdeal.Gen Cert.Upsample

set_option maxRecDepth 65536
set_option maxHeartbeats 1300000

/-- Placing an array at the origin of a larger one, where the place is inside the array. -/
theorem place_hit {s si u : Shape} {α : Type} (d : ScatterDims s si u) (x0 : s.Idx → α) (idx : IVec si 32) (upd : u.Idx → α)
    (h0 : ∀ i, idx i = 0#32) (ι : s.Idx) (k : u.Idx) (hk : ∀ a, d.window k a = (ι a).val)
    (hinj : ∀ k', (∀ a, d.window k' a = (ι a).val) → k' = k) :
    Host.scatter d (fun _ b => b) x0 idx upd ι = upd k := by
  have hs : ∀ k a, d.start k idx a = 0 := fun k a => by
    unfold ScatterDims.start; split
    · rw [h0]; rfl
    · rfl
  refine Routing.scatter_set_hit d x0 idx upd ι _ (fun k' hk' => ?_) k ?_
  · rw [Routing.resultIdx?_eq_some] at hk'
    rw [hinj k' fun a => by have := hk' a; rw [hs] at this; omega]
  · rw [Routing.resultIdx?_eq_some]
    intro a; rw [hs, hk]; simp

/-- The same where the place is outside the array. -/
theorem place_miss {s si u : Shape} {α : Type} (d : ScatterDims s si u) (x0 : s.Idx → α) (idx : IVec si 32) (upd : u.Idx → α)
    (h0 : ∀ i, idx i = 0#32) (ι : s.Idx) (hk : ∀ k, ¬ ∀ a, d.window k a = (ι a).val) :
    Host.scatter d (fun _ b => b) x0 idx upd ι = x0 ι := by
  have hs : ∀ k a, d.start k idx a = 0 := fun k a => by
    unfold ScatterDims.start; split
    · rw [h0]; rfl
    · rfl
  refine Routing.scatter_set_miss d x0 idx upd ι (fun k hk' => hk k fun a => ?_)
  rw [Routing.resultIdx?_eq_some] at hk'
  have := hk' a; rw [hs] at this; omega

/-- The padded frames: the 3300 frames given. -/
theorem place_frames {α : Type} (x0 : S3328x16.Idx → α) (idx : IVec S1 32) (upd : S3300x16.Idx → α) (h0 : ∀ i, idx i = 0#32)
    (t : Fin 3328) (ht : t.val < 3300) (b : Fin 16) :
    Host.scatter scatter_S3328x16_S1_S3300x16_01_n_0_0 (fun _ b => b) x0 idx upd (ix2 t b) = upd (ix2 ⟨t.val, ht⟩ b) := by
  refine place_hit _ x0 idx upd h0 _ (ix2 ⟨t.val, ht⟩ b) (fun a => ?_) (fun k' h => ?_)
  · fin_cases a <;> rfl
  · have e0 : (k' 0).val = t.val := h 0
    have e1 : (k' 1).val = b.val := h 1
    funext a
    fin_cases a
    · exact Fin.ext e0
    · exact Fin.ext e1

/-- The padded projection rows: the 80 rows given. -/
theorem place_rows {α : Type} (x0 : S128x1536.Idx → α) (idx : IVec S1 32) (upd : S80x1536.Idx → α) (h0 : ∀ i, idx i = 0#32)
    (f : Fin 128) (hf : f.val < 80) (c : Fin 1536) :
    Host.scatter scatter_S128x1536_S1_S80x1536_01_n_0_0 (fun _ b => b) x0 idx upd (ix2 f c) = upd (ix2 ⟨f.val, hf⟩ c) := by
  refine place_hit _ x0 idx upd h0 _ (ix2 ⟨f.val, hf⟩ c) (fun a => ?_) (fun k' h => ?_)
  · fin_cases a <;> rfl
  · have e0 : (k' 0).val = f.val := h 0
    have e1 : (k' 1).val = c.val := h 1
    funext a
    fin_cases a
    · exact Fin.ext e0
    · exact Fin.ext e1

/-- The padded projection rows: the rows added. -/
theorem place_rows_off {α : Type} (x0 : S128x1536.Idx → α) (idx : IVec S1 32) (upd : S80x1536.Idx → α) (h0 : ∀ i, idx i = 0#32)
    (f : Fin 128) (hf : ¬ f.val < 80) (c : Fin 1536) :
    Host.scatter scatter_S128x1536_S1_S80x1536_01_n_0_0 (fun _ b => b) x0 idx upd (ix2 f c) = x0 (ix2 f c) := by
  refine place_miss _ x0 idx upd h0 _ fun k h => hf ?_
  have e0 : (k 0).val = f.val := h 0
  exact e0 ▸ (k 0).isLt

/-- The padded features: the 80 features given. -/
theorem place_features {α : Type} (x0 : S16x16x128.Idx → α) (idx : IVec S1 32) (upd : S16x16x80.Idx → α) (h0 : ∀ i, idx i = 0#32)
    (j b : Fin 16) (f : Fin 128) (hf : f.val < 80) :
    Host.scatter scatter_S16x16x128_S1_S16x16x80_012_n_2_0 (fun _ b => b) x0 idx upd (ix3 j b f) = upd (ix3 j b ⟨f.val, hf⟩) := by
  refine place_hit _ x0 idx upd h0 _ (ix3 j b ⟨f.val, hf⟩) (fun a => ?_) (fun k' h => ?_)
  · fin_cases a <;> rfl
  · have e0 : (k' 0).val = j.val := h 0
    have e1 : (k' 1).val = b.val := h 1
    have e2 : (k' 2).val = f.val := h 2
    funext a
    fin_cases a
    · exact Fin.ext e0
    · exact Fin.ext e1
    · exact Fin.ext e2

/-- The padded features: the features added. -/
theorem place_features_off {α : Type} (x0 : S16x16x128.Idx → α) (idx : IVec S1 32) (upd : S16x16x80.Idx → α)
    (h0 : ∀ i, idx i = 0#32) (j b : Fin 16) (f : Fin 128) (hf : ¬ f.val < 80) :
    Host.scatter scatter_S16x16x128_S1_S16x16x80_012_n_2_0 (fun _ b => b) x0 idx upd (ix3 j b f) = x0 (ix3 j b f) := by
  refine place_miss _ x0 idx upd h0 _ fun k h => hf ?_
  have e2 : (k 2).val = f.val := h 2
  exact e2 ▸ (k 2).isLt

variable (V : Valuation τ sig (Elt Ideal)) (g : Fin 16 → ℕ → EReal)

/-- The words of the frames given, frames first. -/
theorem words (t : Fin 3328) (ht : t.val < 3300) (b : Fin 16) :
    word2 (after hostOps0 V (Proc.devRef .tc main_v3)) t b = word2 (V (Proc.devRef .tc main_arg0)) b ⟨t.val, ht⟩ := by
  unfold word2
  after_reads_simp
  refine (place_frames _ _ _ (fun i => rfl) t ht b).trans ?_
  pointwise

/-- The identity matrix, every column repeated five times. -/
theorem unit0 (j : Fin 16) (q : Fin 80) :
    at2 (after hostOps0 V (Proc.devRef .tc main_v11)) j q = unitAt j.val (q.val / 5) := by
  unfold at2
  after_reads_simp
  pointwise
  rw [word_eq]
  unfold unitAt
  have h : (IntOp.addi (BitVec.ofNat 32 j.val) 0#32 = BitVec.ofNat 32 (q.val / 5)) ↔ q.val / 5 = j.val := by
    unfold IntOp.addi
    rw [BitVec.add_zero, ← BitVec.toNat_inj, BitVec.toNat_ofNat, BitVec.toNat_ofNat]
    omega
  simp only [h]

/-- The same between five zeros on either side. -/
theorem upad1 (hc : V (Proc.devRef .tc main_c_2) = (constantI S_ 32 0#32))
    (hg : ∀ j (p : Fin 80), at2 (V (Proc.devRef .tc main_v11)) j p = g j (p.val / 5)) (j : Fin 16) (q : Fin 90) :
    at2 (after hostOps0_1 V (Proc.devRef .tc main_v12)) j q = rep 16 5 (g j) q.val := by
  unfold at2
  after_reads_simp
  simp only [TRef.toBuf, TRef.ofBuf, cast_eq, hc]
  pointwise
  rw [zero_word]
  exact rep_of_dite (n := 16) (s := 5) _ rfl (fun p => at2 (V (Proc.devRef .tc main_v11)) j p) (hg j) _

/-- The first stage's weighted sums, repeated five times. -/
theorem usum1 (hg : ∀ j (p : Fin 90), at2 (V (Proc.devRef .tc main_v12)) j p = rep 16 5 (g j) p.val) (j : Fin 16) (q : Fin 400) :
    at2 (after hostOps0_2 V (Proc.devRef .tc main_v39)) j q = sumStage k11 16 5 (g j) (q.val / 5) := by
  unfold at2 at *
  after_reads_simp
  pointwise
  simp only [hg, sumStage, Finset.sum_range_succ, Finset.sum_range_zero, zero_add, add_zero, add_comm (q.val / 5), k11,
    Ideal.ofBits_zero_f32]

/-- The second stage's input between five zeros on either side. -/
theorem upad2 (hc : V (Proc.devRef .tc main_c_4) = (constantI S_ 32 0#32))
    (hg : ∀ j (p : Fin 400), at2 (V (Proc.devRef .tc main_v39)) j p = g j (p.val / 5)) (j : Fin 16) (q : Fin 410) :
    at2 (after hostOps0_3 V (Proc.devRef .tc main_v40)) j q = rep 80 5 (g j) q.val := by
  unfold at2
  after_reads_simp
  simp only [TRef.toBuf, TRef.ofBuf, cast_eq, hc]
  pointwise
  rw [zero_word]
  exact rep_of_dite (n := 80) (s := 5) _ rfl (fun p => at2 (V (Proc.devRef .tc main_v39)) j p) (hg j) _

/-- The second stage's weighted sums, repeated eleven times. -/
theorem usum2 (hg : ∀ j (p : Fin 410), at2 (V (Proc.devRef .tc main_v40)) j p = rep 80 5 (g j) p.val) (j : Fin 16) (q : Fin 4400) :
    at2 (after hostOps0_4 V (Proc.devRef .tc main_v67)) j q = sumStage k11 80 5 (g j) (q.val / 11) := by
  unfold at2 at *
  after_reads_simp
  pointwise
  simp only [hg, sumStage, Finset.sum_range_succ, Finset.sum_range_zero, zero_add, add_zero, add_comm (q.val / 11), k11,
    Ideal.ofBits_zero_f32]

/-- The third stage's input between eleven zeros on either side. -/
theorem upad3 (hc : V (Proc.devRef .tc main_c_7) = (constantI S_ 32 0#32))
    (hg : ∀ j (p : Fin 4400), at2 (V (Proc.devRef .tc main_v67)) j p = g j (p.val / 11)) (j : Fin 16) (q : Fin 4422) :
    at2 (after hostOps0_5 V (Proc.devRef .tc main_v68)) j q = rep 400 11 (g j) q.val := by
  unfold at2
  after_reads_simp
  simp only [TRef.toBuf, TRef.ofBuf, cast_eq, hc]
  pointwise
  rw [zero_word]
  exact rep_of_dite (n := 400) (s := 11) _ rfl (fun p => at2 (V (Proc.devRef .tc main_v67)) j p) (hg j) _

/-- The operator's rows for the frames given: the third stage from sample 550 on, frames first. -/
theorem usum3 (hg : ∀ j (p : Fin 4422), at2 (V (Proc.devRef .tc main_v68)) j p = rep 400 11 (g j) p.val)
    (t : Fin 3328) (ht : t.val < 3300) (j : Fin 16) :
    at2 (after hostOps0_6 V (Proc.devRef .tc main_v122)) t j = sumStage k23 400 11 (g j) (550 + t.val) := by
  unfold at2 at *
  after_reads_simp
  refine (place_frames _ _ _ (fun i => rfl) t ht j).trans ?_
  pointwise
  simp only [hg, sumStage, Finset.sum_range_succ, Finset.sum_range_zero, zero_add, add_zero, ← add_assoc,
    add_comm (550 + t.val), k23, Ideal.ofBits_zero_f32]

/-- The signal by samples, with a column for every pair of a row and one of 128 features. -/
theorem signal (j b : Fin 16) (f : Fin 128) :
    at2 (after hostOps0_6 V (Proc.devRef .tc main_v127)) j ⟨b.val * 128 + f.val, by omega⟩
      = if h : f.val < 80 then at3 (V (Proc.devRef .tc main_arg1)) b ⟨f.val, h⟩ j else 0 := by
  unfold at2 at3
  after_reads_simp
  pointwise
  split
  · rename_i h
    refine (place_features _ _ _ (fun i => rfl) j b f h).trans ?_
    pointwise
  · rename_i h
    refine (place_features_off _ _ _ (fun i => rfl) j b f h).trans ?_
    pointwise

/-- The embedding weights, transposed. -/
theorem wemb (k : Fin 512) (c : Fin 1536) :
    at2 (after hostOps0_6 V (Proc.devRef .tc main_v129)) k c = at2 (V (Proc.devRef .tc main_arg5)) c ⟨k.val, by omega⟩ := by
  unfold at2
  after_reads_simp
  pointwise

/-- The weights of the 80 features, transposed, above 48 rows of zeros. -/
theorem wfeat (f : Fin 128) (c : Fin 1536) :
    at2 (after hostOps0_6 V (Proc.devRef .tc main_v134)) f c
      = if h : f.val < 80 then at2 (V (Proc.devRef .tc main_arg5)) c ⟨512 + f.val, by omega⟩ else 0 := by
  unfold at2
  after_reads_simp
  split
  · rename_i h
    refine (place_rows _ _ _ (fun i => rfl) f h c).trans ?_
    pointwise
  · rename_i h
    refine (place_rows_off _ _ _ (fun i => rfl) f h c).trans ?_
    pointwise

/-- The recurrent weights, transposed. -/
theorem wrec (k : Fin 512) (c : Fin 1536) :
    at2 (after hostOps0_6 V (Proc.devRef .tc main_v135)) k c = at2 (V (Proc.devRef .tc main_arg6)) c k := by
  unfold at2
  after_reads_simp
  pointwise

/-- The input bias as a row. -/
theorem bin (c : Fin 1536) : at2 (after hostOps0_6 V (Proc.devRef .tc main_v136)) 0 c = at1 (V (Proc.devRef .tc main_arg7)) c := by
  unfold at2 at1
  after_reads_simp
  pointwise

/-- The recurrent bias as a row. -/
theorem brec (c : Fin 1536) : at2 (after hostOps0_6 V (Proc.devRef .tc main_v137)) 0 c = at1 (V (Proc.devRef .tc main_arg8)) c := by
  unfold at2 at1
  after_reads_simp
  pointwise

/-- The first layer's weights, transposed. -/
theorem wfc1 (k c : Fin 512) :
    at2 (after hostOps0_6 V (Proc.devRef .tc main_v138)) k c = at2 (V (Proc.devRef .tc main_arg9)) c k := by
  unfold at2
  after_reads_simp
  pointwise

/-- The second layer's weights, transposed. -/
theorem wfc2 (k c : Fin 512) :
    at2 (after hostOps0_6 V (Proc.devRef .tc main_v139)) k c = at2 (V (Proc.devRef .tc main_arg11)) c k := by
  unfold at2
  after_reads_simp
  pointwise

/-- The first layer's bias as a row. -/
theorem bfc1 (c : Fin 512) : at2 (after hostOps0_6 V (Proc.devRef .tc main_v140)) 0 c = at1 (V (Proc.devRef .tc main_arg10)) c := by
  unfold at2 at1
  after_reads_simp
  pointwise

/-- The second layer's bias as a row. -/
theorem bfc2 (c : Fin 512) : at2 (after hostOps0_6 V (Proc.devRef .tc main_v141)) 0 c = at1 (V (Proc.devRef .tc main_arg12)) c := by
  unfold at2 at1
  after_reads_simp
  pointwise

/-- The states, the 16 rows of a frame side by side. -/
theorem rows (t : Fin 3328) (b : Fin 16) (k : Fin 512) :
    at2 (after hostOps1 V (Proc.devRef .tc main_v143)) t ⟨b.val * 512 + k.val, by omega⟩ = at3 (V (Proc.devRef .tc main_v142)) t b k := by
  unfold at2 at3
  after_reads_simp
  pointwise

end Cert.KernelIdeal.Hand
end
-- ==== Proof.Spec.lean ====
/- What both programs compute, at plain indices: the input projection, the recurrence and the two-layer head. -/
module

public import proofs.«01_k».proof.Proof.Upsample

@[expose] public section

noncomputable section

namespace Cert.Spec

open Idealize.ShloMosaic Cert.Upsample

/-- A feature's row of sixteen samples, zero outside. -/
def row (mels : (⟨3, ![16, 80, 16]⟩ : Shape).Idx → EReal) (b : Fin 16) (f : Fin 80) (j : ℕ) : EReal :=
  if h : j < 16 then at3 mels b f ⟨j, h⟩ else 0

/-- The row at one of its sixteen samples. -/
theorem row_val (mels : (⟨3, ![16, 80, 16]⟩ : Shape).Idx → EReal) (b : Fin 16) (f : Fin 80) (j : Fin 16) :
    row mels b f j.val = at3 mels b f j := dif_pos j.isLt

/-- The input projection of sequence `b` at time `t`, gate column `c`: its class's column, its upsampled features' and the bias. -/
def proj (x : (⟨2, ![16, 3300]⟩ : Shape).Idx → BitVec 32) (mels : (⟨3, ![16, 80, 16]⟩ : Shape).Idx → EReal)
    (wih : (⟨2, ![1536, 592]⟩ : Shape).Idx → EReal) (bih : (⟨1, ![1536]⟩ : Shape).Idx → EReal)
    (t : Fin 3300) (b : Fin 16) (c : Fin 1536) : EReal :=
  (∑ k : Fin 512, (if word2 x b t = BitVec.ofNat 32 k.val then (1 : EReal) else 0) * at2 wih c ⟨k.val, by omega⟩)
    + (∑ f : Fin 80, up3 (row mels b f) (550 + t.val) * at2 wih c ⟨512 + f.val, by omega⟩)
    + at1 bih c

/-- The hidden part of a gate column: the state against the column's weights, and the bias. -/
def pre (w : Fin 1536 → Fin 512 → EReal) (bh : Fin 1536 → EReal) (h : Fin 16 → Fin 512 → EReal) (b : Fin 16) (c : Fin 1536) : EReal :=
  (∑ k : Fin 512, h b k * w c k) + bh c

/-- One step of the recurrence. -/
def cell (w : Fin 1536 → Fin 512 → EReal) (bh : Fin 1536 → EReal) (p : Fin 16 → Fin 1536 → EReal)
    (h : Fin 16 → Fin 512 → EReal) (b : Fin 16) (j : Fin 512) : EReal :=
  (1 - Ideal.logistic (p b ⟨512 + j.val, by omega⟩ + pre w bh h b ⟨512 + j.val, by omega⟩))
      * Ideal.tanh (p b ⟨1024 + j.val, by omega⟩
          + Ideal.logistic (p b ⟨j.val, by omega⟩ + pre w bh h b ⟨j.val, by omega⟩) * pre w bh h b ⟨1024 + j.val, by omega⟩)
    + Ideal.logistic (p b ⟨512 + j.val, by omega⟩ + pre w bh h b ⟨512 + j.val, by omega⟩) * h b j

/-- The state after `n` steps from zero. -/
def hid (w : Fin 1536 → Fin 512 → EReal) (bh : Fin 1536 → EReal) (p : Fin 3300 → Fin 16 → Fin 1536 → EReal) :
    ℕ → Fin 16 → Fin 512 → EReal
  | 0 => fun _ _ => 0
  | n + 1 => cell w bh (fun b c => if h : n < 3300 then p ⟨n, h⟩ b c else 0) (hid w bh p n)

/-- The state after one more step is the cell of the state before it. -/
theorem hid_succ (w : Fin 1536 → Fin 512 → EReal) (bh : Fin 1536 → EReal) (p : Fin 3300 → Fin 16 → Fin 1536 → EReal)
    (n : ℕ) (hn : n < 3300) : hid w bh p (n + 1) = cell w bh (p ⟨n, hn⟩) (hid w bh p n) := by
  rw [hid]; congr 1; funext b c; exact dif_pos hn

/-- The head: the clipped first layer, then the second. -/
def head (h : Fin 512 → EReal) (w1 : Fin 512 → Fin 512 → EReal) (b1 : Fin 512 → EReal) (w2 : Fin 512 → Fin 512 → EReal)
    (b2 : Fin 512 → EReal) (o : Fin 512) : EReal :=
  (∑ c : Fin 512, max ((∑ k : Fin 512, h k * w1 c k) + b1 c) 0 * w2 o c) + b2 o

end Cert.Spec

end
-- ==== Proof.GruMath.lean ====
/- The recurrence kernel's arithmetic at an index: the gate inputs, the cell, and the rows the counted loop leaves. -/
module

public import proofs.«01_k».proof.Proof.Region0
public import proofs.«01_k».proof.Proof.Spec
public import Idealize.ShloMosaic.Lib.Pointwise

@[expose] public section

noncomputable section

namespace Cert.KernelIdeal.Hand

open Idealize.ShloMosaic Idealize.ShloMosaic.TcCoe Idealize.SL.Sem
open Cert.KernelIdeal Cert.KernelIdeal.Gen Cert.Upsample Cert.Spec

set_option maxRecDepth 65536
set_option maxHeartbeats 1300000

/-- The truth of an equation of words, widened, as a float. -/
theorem wide_eq (a b : BitVec 32) :
    (FloatOps.sitofp (F := Ideal) FTy.f32 (BitVec.setWidth 32 (IntOp.cmpi CmpIPredicate.eq a b)) : EReal) = if b = a then 1 else 0 := by
  show (((BitVec.setWidth 32 (IntOp.cmpi CmpIPredicate.eq a b)).toInt : ℝ) : EReal) = _
  by_cases h : a = b
  · subst h; simp [IntOp.cmpi]
  · have e : (a == b) = false := by simpa using h
    simp [IntOp.cmpi, e, Ne.symm h]

/-- The gate inputs of a row of a block: the one-hot part, the upsampled part and the bias. -/
theorem gates (x : S128x16.Idx → BitVec 32) (u : S128x16.Idx → EReal) (s : S16x2048.Idx → EReal) (we : S512x1536.Idx → EReal)
    (wf : S128x1536.Idx → EReal) (bi : S1x1536.Idx → EReal) (r : Fin 128) (b : Fin 16) (c : Fin 1536) :
    at3 (k0_pay5 (F := Ideal) x u s we wf bi) r b c
      = (∑ k : Fin 512, (if word2 x r b = BitVec.ofNat 32 k.val then 1 else 0) * at2 we k c)
        + (∑ f : Fin 128, (∑ j : Fin 16, at2 u r j * at2 s j ⟨b.val * 128 + f.val, by omega⟩) * at2 wf f c) + at2 bi 0 c := by
  unfold at3 at2 word2 k0_pay5
  dsimp only
  pointwise
  have e : (r.val * 16 + b.val) % 16 = b.val := by omega
  simp only [wide_eq, e]

/-- The cell at an index: the new state from the state and the gate inputs of one step. -/
theorem cell_at (w : S512x1536.Idx → EReal) (bh : S1x1536.Idx → EReal) (h : S16x512.Idx → EReal) (x : S1x16x1536.Idx → EReal)
    (b : Fin 16) (j : Fin 512) :
    at2 (k0_pay1 (F := Ideal) w bh h x) b j
      = cell (fun c k => at2 w k c) (fun c => at2 bh 0 c) (fun b c => at3 x 0 b c) (fun b k => at2 h b k) b j := by
  unfold at2 at3 k0_pay1 cell pre
  dsimp only
  pointwise

/-- The weights pass through the body's own copy of them. -/
theorem copy_weights (w : S512x1536.Idx → EReal) (k : Fin 512) (c : Fin 1536) : at2 (k0_pay6 (F := Ideal) w) k c = at2 w k c := by
  unfold at2 k0_pay6
  pointwise

/-- The state passes through the body's own copy of it. -/
theorem copy_state (h : S16x512.Idx → EReal) (b : Fin 16) (k : Fin 512) : at2 (k0_pay3 (F := Ideal) h) b k = at2 h b k := by
  unfold at2 k0_pay3
  pointwise

/-- The state before the first step is zero. -/
theorem zero_state (b : Fin 16) (k : Fin 512) : at2 (k0_pay4 (F := Ideal)) b k = 0 := by
  unfold at2 k0_pay4
  pointwise

/-- A row of the gate inputs. -/
theorem xrow_at (xp : S128x16x1536.Idx → EReal) (k : ℕ) (hk : k < 128) (b : Fin 16) (c : Fin 1536) :
    at3 (xrow (F := Ideal) xp k) 0 b c = at3 xp ⟨k, hk⟩ b c := by
  unfold at3 xrow
  rw [dif_pos hk]
  exact congrArg xp (funext fun a => by fin_cases a <;> rfl)

/-- From the state after `n` steps and the gate inputs of the steps that follow, the loop makes the states that follow. -/
theorem gruH_hid (w : S512x1536.Idx → EReal) (bh : S1x1536.Idx → EReal) (xp : S128x16x1536.Idx → EReal) (h0 : S16x512.Idx → EReal)
    (w' : Fin 1536 → Fin 512 → EReal) (bh' : Fin 1536 → EReal) (p : Fin 3300 → Fin 16 → Fin 1536 → EReal) (n : ℕ)
    (hw : ∀ c k, at2 w k c = w' c k) (hb : ∀ c, at2 bh 0 c = bh' c)
    (hx : ∀ (r : Fin 128) (h : n + r.val < 3300) b c, at3 xp r b c = p ⟨n + r.val, h⟩ b c)
    (hh : ∀ b k, at2 h0 b k = hid w' bh' p n b k) (k : ℕ) (hk : k ≤ 128) (hn : n + k ≤ 3300) (b : Fin 16) (j : Fin 512) :
    at2 (gruH (F := Ideal) w bh xp h0 k) b j = hid w' bh' p (n + k) b j := by
  induction k generalizing b j with
  | zero => exact hh b j
  | succ k ih =>
    have hn' : n + k < 3300 := by omega
    have e : ∀ b c, at3 (xrow (F := Ideal) xp k) 0 b c = p ⟨n + k, hn'⟩ b c := fun b c => by
      rw [xrow_at xp k (by omega), hx _ hn']
    rw [← add_assoc, hid_succ w' bh' p (n + k) hn', gruH, cell_at]
    simp only [hw, hb, e, ih (by omega) (by omega)]

/-- Row `r` of the block a point leaves is the state after `r + 1` of its steps. -/
theorem gruOut_at (x0 : S128x16.Idx → BitVec 32) (x1 : S128x16.Idx → EReal) (x2 : S16x2048.Idx → EReal) (x3 : S512x1536.Idx → EReal)
    (x4 : S128x1536.Idx → EReal) (x5 : S1x1536.Idx → EReal) (x6 : S512x1536.Idx → EReal) (x7 : S1x1536.Idx → EReal)
    (h0 : S16x512.Idx → EReal) (r : Fin 128) (b : Fin 16) (k : Fin 512) :
    at3 (gruOut (F := Ideal) x0 x1 x2 x3 x4 x5 x6 x7 h0) r b k
      = at2 (gruH (F := Ideal) (k0_pay6 (F := Ideal) x6) x7 (k0_pay5 (F := Ideal) x0 x1 x2 x3 x4 x5) h0 (r.val + 1)) b k := by
  have e : rowOf3 (ix3 r b k) = (ix3 0 b k : S1x16x512.Idx) := funext fun a => by fin_cases a <;> rfl
  unfold at3 at2
  rw [gruH]
  show k0_pay2 (F := Ideal) _ _ _ _ (rowOf3 (ix3 r b k)) = _
  rw [e]
  unfold k0_pay2
  pointwise

end Cert.KernelIdeal.Hand
end
-- ==== Proof.FcMath.lean ====
/- The head kernel's arithmetic at an index. -/
module

public import proofs.«01_k».proof.Proof.FcBody
public import proofs.«01_k».proof.Proof.Spec
public import Idealize.ShloMosaic.Lib.Pointwise

@[expose] public section

noncomputable section

namespace Cert.KernelIdeal.Hand

open Idealize.ShloMosaic Idealize.ShloMosaic.TcCoe Idealize.SL.Sem
open Cert.KernelIdeal Cert.KernelIdeal.Gen Cert.Upsample Cert.Spec

set_option maxRecDepth 65536
set_option maxHeartbeats 1300000

variable (x0 : S3328x512.Idx → EReal) (x1 : S512x512.Idx → EReal) (x2 : S1x512.Idx → EReal) (x3 : S512x512.Idx → EReal)
  (x4 : S1x512.Idx → EReal)

/-- A row of a group of rows. -/
theorem rowsAt_at (o : ℕ) (inb : ∀ a, (![o, 0] : Fin 2 → ℕ) a + S832x512.size a ≤ S3328x512.size a) (i : Fin 832) (k : Fin 512)
    (h : o + i.val < 3328) : rowsAt (F := Ideal) o inb x0 (ix2 i k) = x0 (ix2 ⟨o + i.val, h⟩ k) := by
  refine congrArg x0 (funext fun a => Fin.ext ?_)
  fin_cases a
  · show o + 1 * i.val = o + i.val
    omega
  · show 0 + 1 * k.val = k.val
    omega

/-- The head of row `t`. -/
abbrev headRow (t : Fin 3328) (o : Fin 512) : EReal :=
  head (fun k => at2 x0 t k) (fun c k => at2 x1 k c) (fun c => at2 x2 0 c) (fun o c => at2 x3 c o) (fun o => at2 x4 0 o) o

/-- The first 832 rows. -/
theorem rows0_at (i : Fin 832) (o : Fin 512) : at3 (fcRows0 (F := Ideal) x0 x1 x2 x3 x4) 0 i o = headRow x0 x1 x2 x3 x4 ⟨0 + i.val, by omega⟩ o := by
  have e := fun k => rowsAt_at x0 0 inb_S3328x512_S832x512_0_0 i k (by omega)
  unfold fcRows0 headRow head
  generalize rowsAt (F := Ideal) 0 _ x0 = r at e ⊢
  unfold at3 at2 k1_pay4 k1_pay2 k1_pay3
  dsimp only
  pointwise
  simp only [e, zero_add]

/-- The next 832 rows. -/
theorem rows1_at (i : Fin 832) (o : Fin 512) : at3 (fcRows1 (F := Ideal) x0 x1 x2 x3 x4) 0 i o = headRow x0 x1 x2 x3 x4 ⟨832 + i.val, by omega⟩ o := by
  have e := fun k => rowsAt_at x0 832 inb_S3328x512_S832x512_832_0 i k (by omega)
  unfold fcRows1 headRow head
  generalize rowsAt (F := Ideal) 832 _ x0 = r at e ⊢
  unfold at3 at2 k1_pay6 k1_pay5 k1_pay2 k1_pay3
  dsimp only
  pointwise
  simp only [e]

/-- The third 832 rows. -/
theorem rows2_at (i : Fin 832) (o : Fin 512) : at3 (fcRows2 (F := Ideal) x0 x1 x2 x3 x4) 0 i o = headRow x0 x1 x2 x3 x4 ⟨1664 + i.val, by omega⟩ o := by
  have e := fun k => rowsAt_at x0 1664 inb_S3328x512_S832x512_1664_0 i k (by omega)
  unfold fcRows2 headRow head
  generalize rowsAt (F := Ideal) 1664 _ x0 = r at e ⊢
  unfold at3 at2 k1_pay7 k1_pay2 k1_pay3
  dsimp only
  pointwise
  simp only [e]

/-- The last 804 rows. -/
theorem rows3_at (i : Fin 804) (o : Fin 512) : at3 (fcRows3 (F := Ideal) x0 x1 x2 x3 x4) 0 i o = headRow x0 x1 x2 x3 x4 ⟨2496 + i.val, by omega⟩ o := by
  have e := fun k => rowsAt_at x0 2496 inb_S3328x512_S832x512_2496_0 ⟨i.val, by omega⟩ k (by simp only; omega)
  unfold fcRows3 headRow head
  generalize rowsAt (F := Ideal) 2496 _ x0 = r at e ⊢
  unfold at3 at2 k1_pay1 k1_pay8 k1_pay2 k1_pay3
  dsimp only
  pointwise
  simp only [e]

/-- The output block at an index: the head of the row. -/
theorem fcOut_at (t : Fin 3300) (o : Fin 512) :
    at3 (fcOut (F := Ideal) x0 x1 x2 x3 x4) 0 t o = headRow x0 x1 x2 x3 x4 ⟨t.val, by omega⟩ o := by
  have key : ∀ (n b : ℕ) (h : t.val - b < n), inRows b n (ix3 0 t o) h = ix3 0 ⟨t.val - b, h⟩ o := fun n b h =>
    funext fun a => by fin_cases a <;> rfl
  have row : ∀ (b : ℕ) (hb : b ≤ t.val) (h : b + (t.val - b) < 3328), (⟨b + (t.val - b), h⟩ : Fin 3328) = ⟨t.val, by omega⟩ :=
    fun b hb h => Fin.ext (by simp only; omega)
  have land : ∀ (b : ℕ) (hb : b ≤ t.val) (h : b + (t.val - b) < 3328),
      headRow x0 x1 x2 x3 x4 ⟨b + (t.val - b), h⟩ o = headRow x0 x1 x2 x3 x4 ⟨t.val, by omega⟩ o :=
    fun b hb h => congrArg (fun t => headRow x0 x1 x2 x3 x4 t o) (row b hb h)
  have ht : t.val < 3300 := t.isLt
  by_cases h0 : t.val < 832
  · exact (dif_pos h0).trans ((congrArg (fcRows0 (F := Ideal) x0 x1 x2 x3 x4) (key 832 0 (by omega))).trans
      ((rows0_at x0 x1 x2 x3 x4 ⟨t.val - 0, by omega⟩ o).trans (land 0 (by omega) _)))
  by_cases h1 : t.val < 1664
  · exact (dif_neg h0).trans ((dif_pos h1).trans ((congrArg (fcRows1 (F := Ideal) x0 x1 x2 x3 x4) (key 832 832 (by omega))).trans
      ((rows1_at x0 x1 x2 x3 x4 ⟨t.val - 832, by omega⟩ o).trans (land 832 (by omega) _))))
  by_cases h2 : t.val < 2496
  · exact (dif_neg h0).trans ((dif_neg h1).trans ((dif_pos h2).trans
      ((congrArg (fcRows2 (F := Ideal) x0 x1 x2 x3 x4) (key 832 1664 (by omega))).trans
      ((rows2_at x0 x1 x2 x3 x4 ⟨t.val - 1664, by omega⟩ o).trans (land 1664 (by omega) _)))))
  · exact (dif_neg h0).trans ((dif_neg h1).trans ((dif_neg h2).trans
      ((congrArg (fcRows3 (F := Ideal) x0 x1 x2 x3 x4) (key 804 2496 (by omega))).trans
      ((rows3_at x0 x1 x2 x3 x4 ⟨t.val - 2496, by omega⟩ o).trans (land 2496 (by omega) _)))))

end Cert.KernelIdeal.Hand
end
-- ==== Proof.KerValue.lean ====
/- The blocks the two launches read, and the arrays they leave. -/
module

public import proofs.«01_k».proof.Proof.Run
public import proofs.«01_k».proof.Proof.KerEntry
public import proofs.«01_k».proof.Proof.GruMath
public import proofs.«01_k».proof.Proof.FcMath
public import Idealize.ShloMosaic.Lib.Pipeline.ValueKit

@[expose] public section

noncomputable section

namespace Cert.KernelIdeal.Hand

open Idealize.ShloMosaic Idealize.ShloMosaic.TcCoe Idealize.SL.Sem
open Cert.KernelIdeal Cert.KernelIdeal.Gen Cert.Upsample Cert.Spec

set_option maxRecDepth 65536
set_option maxHeartbeats 1300000

/-- The recurrence's blocks: the frame windows move with the point, the others stay. -/
theorem idx0 : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0] := by decide +kernel

/-- The head's blocks: a row of the batch at every point, the weights whole. -/
theorem idx1 : ∀ t : Fin grid1.N, win1_0.index t = ![0, t.val] ∧ win1_1.index t = ![0, 0] ∧ win1_2.index t = ![0, 0]
    ∧ win1_3.index t = ![0, 0] ∧ win1_4.index t = ![0, 0] ∧ win1_5.index t = ![t.val, 0, 0] := by decide +kernel

/-- The recurrence has 26 points. -/
theorem pt0 (t : Fin cfg0.N) : t.val < 26 := Nat.lt_of_lt_of_eq t.isLt N_0

/-- The head has 16 points. -/
theorem pt1 (t : Fin cfg1.N) : t.val < 16 := Nat.lt_of_lt_of_eq t.isLt (by decide)

variable (W : Dev nD → Valuation τ sig (Elt Ideal)) (c : Dev nD)

/-- A block of words is 128 rows of its array. -/
theorem blk0_0 (t : Fin cfg0.N) (r : Fin 128) (b : Fin 16) :
    word2 (blk0 W c 0 t) r b = word2 (W c (Proc.devRef .tc main_v3)) ⟨t.val * 128 + r.val, by have := pt0 t; omega⟩ b := by
  unfold word2 blk0
  blk_ext [idx0 t]

/-- A block of the operator is 128 rows of its array. -/
theorem blk0_1 (t : Fin cfg0.N) (r : Fin 128) (b : Fin 16) :
    at2 (blk0 W c 1 t) r b = at2 (W c (Proc.devRef .tc main_v122)) ⟨t.val * 128 + r.val, by have := pt0 t; omega⟩ b := by
  unfold at2 blk0
  blk_ext [idx0 t]

/-- The signal's block is its array. -/
theorem blk0_2 (t : Fin cfg0.N) (j : Fin 16) (q : Fin 2048) :
    at2 (blk0 W c 2 t) j q = at2 (W c (Proc.devRef .tc main_v127)) j q := by
  unfold at2 blk0
  blk_ext [idx0 t]

/-- The embedding weights' block is its array. -/
theorem blk0_3 (t : Fin cfg0.N) (j : Fin 512) (q : Fin 1536) :
    at2 (blk0 W c 3 t) j q = at2 (W c (Proc.devRef .tc main_v129)) j q := by
  unfold at2 blk0
  blk_ext [idx0 t]

/-- The feature weights' block is its array. -/
theorem blk0_4 (t : Fin cfg0.N) (j : Fin 128) (q : Fin 1536) :
    at2 (blk0 W c 4 t) j q = at2 (W c (Proc.devRef .tc main_v134)) j q := by
  unfold at2 blk0
  blk_ext [idx0 t]

/-- The input bias's block is its array. -/
theorem blk0_5 (t : Fin cfg0.N) (j : Fin 1) (q : Fin 1536) :
    at2 (blk0 W c 5 t) j q = at2 (W c (Proc.devRef .tc main_v136)) j q := by
  unfold at2 blk0
  blk_ext [idx0 t]

/-- The recurrent weights' block is its array. -/
theorem blk0_6 (t : Fin cfg0.N) (j : Fin 512) (q : Fin 1536) :
    at2 (blk0 W c 6 t) j q = at2 (W c (Proc.devRef .tc main_v135)) j q := by
  unfold at2 blk0
  blk_ext [idx0 t]

/-- The recurrent bias's block is its array. -/
theorem blk0_7 (t : Fin cfg0.N) (j : Fin 1) (q : Fin 1536) :
    at2 (blk0 W c 7 t) j q = at2 (W c (Proc.devRef .tc main_v137)) j q := by
  unfold at2 blk0
  blk_ext [idx0 t]

/-- A block of states is one row of the batch: 512 columns of the array. -/
theorem blk1_0 (t : Fin cfg1.N) (r : Fin 3328) (k : Fin 512) :
    at2 (blk1 W c 0 t) r k = at2 (W c (Proc.devRef .tc main_v143)) r ⟨t.val * 512 + k.val, by have := pt1 t; omega⟩ := by
  unfold at2 blk1
  blk_ext [idx1 t]

/-- The first layer's weights' block is its array. -/
theorem blk1_1 (t : Fin cfg1.N) (j : Fin 512) (q : Fin 512) :
    at2 (blk1 W c 1 t) j q = at2 (W c (Proc.devRef .tc main_v138)) j q := by
  unfold at2 blk1
  blk_ext [idx1 t]

/-- The first layer's bias's block is its array. -/
theorem blk1_2 (t : Fin cfg1.N) (j : Fin 1) (q : Fin 512) :
    at2 (blk1 W c 2 t) j q = at2 (W c (Proc.devRef .tc main_v140)) j q := by
  unfold at2 blk1
  blk_ext [idx1 t]

/-- The second layer's weights' block is its array. -/
theorem blk1_3 (t : Fin cfg1.N) (j : Fin 512) (q : Fin 512) :
    at2 (blk1 W c 3 t) j q = at2 (W c (Proc.devRef .tc main_v139)) j q := by
  unfold at2 blk1
  blk_ext [idx1 t]

/-- The second layer's bias's block is its array. -/
theorem blk1_4 (t : Fin cfg1.N) (j : Fin 1) (q : Fin 512) :
    at2 (blk1 W c 4 t) j q = at2 (W c (Proc.devRef .tc main_v141)) j q := by
  unfold at2 blk1
  blk_ext [idx1 t]

/-- The array of states after the launch: row `t` is row `t % 128` of what point `t / 128` leaves. -/
theorem arr0 : (dat0 W c).arrAt 8 cfg0.N = fun i : S3328x16x512.Idx =>
    outAt0 W c ⟨(i 0).val / 128, by have h : (i 0).val < 3328 := (i 0).isLt; rw [show cfg0.N = 26 from N_0]; omega⟩
      (ix3 ⟨(i 0).val % 128, by omega⟩ (i 1) (i 2)) := by
  refine (dat0 W c).arrAt_eq_of_covers 8 _ (by decide +kernel) fun t hf y => ?_
  blk_simp
  rw [after0_8]
  have key : ∀ t' y', t' = t → y' = y → outAt0 W c t y = outAt0 W c t' y' := fun t' y' e e' => by subst e e'; rfl
  have h0 : (y 0).val < 128 := (y 0).isLt
  have i0 : win0_8.index t 0 = t.val := by rw [(idx0 t).2.2.2.2.2.2.2.2]; rfl
  refine key _ _ (Fin.ext ?_) (funext fun a => Fin.ext ?_)
  · show (win0_8.index t 0 * 128 + (y 0).val) / 128 = t.val
    rw [i0]; omega
  · fin_cases a
    · show (win0_8.index t 0 * 128 + (y 0).val) % 128 = (y 0).val
      rw [i0]; omega
    · show ((win0_8.blk t).view.emb y 1).val = (y 1).val
      blk_simp [idx0 t]
    · show ((win0_8.blk t).view.emb y 2).val = (y 2).val
      blk_simp [idx0 t]

/-- The result array after the launch: plane `b` is what point `b` leaves. -/
theorem arr1 : (dat1 W c).arrAt 5 cfg1.N = fun i : S16x3300x512.Idx =>
    outAt1 W c ⟨(i 0).val, (i 0).isLt⟩ (ix3 0 (i 1) (i 2)) := by
  refine (dat1 W c).arrAt_eq_of_covers 5 _ (by decide +kernel) fun t hf y => ?_
  blk_simp
  rw [after1_5]
  have key : ∀ t' y', t' = t → y' = y → outAt1 W c t y = outAt1 W c t' y' := fun t' y' e e' => by subst e e'; rfl
  have h0 : (y 0).val < 1 := (y 0).isLt
  have i0 : win1_5.index t 0 = t.val := by rw [(idx1 t).2.2.2.2.2]; rfl
  refine key _ _ (Fin.ext i0) (funext fun a => Fin.ext ?_)
  fin_cases a
  · show 0 = (y 0).val
    omega
  · show ((win1_5.blk t).view.emb y 1).val = (y 1).val
    blk_simp [idx1 t]
  · show ((win1_5.blk t).view.emb y 2).val = (y 2).val
    blk_simp [idx1 t]

end Cert.KernelIdeal.Hand
end
-- ==== Proof.KerMain.lean ====
/- What the kernel's run leaves: the head of the states of the recurrence. -/
module

public import proofs.«01_k».proof.Proof.KerValue

@[expose] public section

noncomputable section

namespace Cert.KernelIdeal.Hand

open Idealize.ShloMosaic Idealize.ShloMosaic.TcCoe Idealize.SL.Sem Idealize.ShloMosaic.StableHlo
open Cert.KernelIdeal Cert.KernelIdeal.Gen Cert.Upsample Cert.Spec

set_option maxRecDepth 65536
set_option maxHeartbeats 1300000

variable (m : (ℓ : Loc nD τ sig) → Buf (Elt Ideal) ℓ) (c : Dev nD)

/-- A sum over 128 features whose last 48 terms are zero is the sum over the first 80. -/
theorem sum_features (F : Fin 128 → EReal) (G : Fin 80 → EReal) (h : ∀ f : Fin 80, F ⟨f.val, by omega⟩ = G f)
    (h0 : ∀ f : Fin 128, ¬ f.val < 80 → F f = 0) : ∑ f, F f = ∑ f, G f := by
  rw [show (∑ f, F f) = (∑ f : Fin (80 + 48), F f) from rfl, Fin.sum_univ_add]
  rw [Finset.sum_eq_zero (s := Finset.univ) (f := fun i : Fin 48 => F (Fin.natAdd 80 i)) fun i _ => h0 _ (by simp), add_zero]
  exact Finset.sum_congr rfl fun f _ => h f

/-- The words the recurrence reads. -/
theorem in_words (t : Fin 3328) (ht : t.val < 3300) (b : Fin 16) :
    word2 (V7 m c (Proc.devRef .tc main_v3)) t b = word2 (m ((c.tc : Thread nD τ).loc main_arg0)) b ⟨t.val, ht⟩ := by
  rw [V7_of m c main_v3 (by decide), V6_of m c main_v3 (by decide), V5_of m c main_v3 (by decide), V4_of m c main_v3 (by decide),
    V3_of m c main_v3 (by decide), V2_of m c main_v3 (by decide)]
  exact words (V0 m c) t ht b

/-- The operator the recurrence reads. -/
theorem in_up (t : Fin 3328) (ht : t.val < 3300) (j : Fin 16) :
    at2 (V7 m c (Proc.devRef .tc main_v122)) t j = op3 j.val (550 + t.val) := by
  refine usum3 (V6 m c) (fun j => op2 j.val) (fun j p => ?_) t ht j
  refine upad3 (V5 m c) (fun j => op2 j.val) (by after_reads_simp) (fun j p => ?_) j p
  refine usum2 (V4 m c) (fun j => op1 j.val) (fun j p => ?_) j p
  refine upad2 (V3 m c) (fun j => op1 j.val) (by after_reads_simp) (fun j p => ?_) j p
  refine usum1 (V2 m c) (fun j => unitAt j.val) (fun j p => ?_) j p
  exact upad1 (V1 m c) (fun j => unitAt j.val) (by after_reads_simp) (fun j p => unit0 (V0 m c) j p) j p

/-- A buffer none of the first six stretches of host operations writes holds what it was launched with. -/
theorem V6_keep (r : Ref sig .tc) (h : r ∉ hostOps0_W ∧ r ∉ hostOps0_1_W ∧ r ∉ hostOps0_2_W ∧ r ∉ hostOps0_3_W ∧ r ∉ hostOps0_4_W
    ∧ r ∉ hostOps0_5_W) : V6 m c (Proc.devRef .tc r) = m ((c.tc : Thread nD τ).loc r) := by
  obtain ⟨h0, h1, h2, h3, h4, h5⟩ := h
  exact (V6_of m c r h5).trans ((V5_of m c r h4).trans ((V4_of m c r h3).trans ((V3_of m c r h2).trans ((V2_of m c r h1).trans (V1_of m c r h0)))))

/-- The recurrent weights, gate columns first. -/
abbrev wRec : Fin 1536 → Fin 512 → EReal := at2 (m ((c.tc : Thread nD τ).loc main_arg6))
/-- The recurrent bias. -/
abbrev bRec : Fin 1536 → EReal := at1 (m ((c.tc : Thread nD τ).loc main_arg8))
/-- The input projection of the launch's arguments. -/
abbrev pIn : Fin 3300 → Fin 16 → Fin 1536 → EReal :=
  Spec.proj (m ((c.tc : Thread nD τ).loc main_arg0)) (m ((c.tc : Thread nD τ).loc main_arg1)) (m ((c.tc : Thread nD τ).loc main_arg5))
    (m ((c.tc : Thread nD τ).loc main_arg7))

/-- The gate inputs a point computes for a frame are the frame's input projection. -/
theorem in_gates (t : Fin cfg0.N) (r : Fin 128) (h : t.val * 128 + r.val < 3300) (b : Fin 16) (q : Fin 1536) :
    at3 (k0_pay5 (F := Ideal) (blk0 (V7 m) c 0 t) (blk0 (V7 m) c 1 t) (blk0 (V7 m) c 2 t) (blk0 (V7 m) c 3 t) (blk0 (V7 m) c 4 t)
      (blk0 (V7 m) c 5 t)) r b q = pIn m c ⟨t.val * 128 + r.val, h⟩ b q := by
  refine (gates _ _ _ _ _ _ r b q).trans ?_
  have e1 : at1 (V6 m c (Proc.devRef .tc main_arg7)) q = at1 (m ((c.tc : Thread nD τ).loc main_arg7)) q := by
    rw [V6_keep m c main_arg7 (by decide)]
  have e5 : ∀ k, at2 (V6 m c (Proc.devRef .tc main_arg5)) q k = at2 (m ((c.tc : Thread nD τ).loc main_arg5)) q k := fun k => by
    rw [V6_keep m c main_arg5 (by decide)]
  have es : ∀ b f j, at3 (V6 m c (Proc.devRef .tc main_arg1)) b f j = at3 (m ((c.tc : Thread nD τ).loc main_arg1)) b f j := fun b f j => by
    rw [V6_keep m c main_arg1 (by decide)]
  refine congr (congrArg _ (congr (congrArg _ (Finset.sum_congr rfl fun k _ => ?_)) (sum_features _ _ (fun f => ?_) fun f hf => ?_))) ?_
  · exact congr (congrArg _ (by rw [blk0_0, in_words m c _ h b]))
      (((blk0_3 (V7 m) c t k q).trans (wemb (V6 m c) k q)).trans (e5 _))
  · refine congr (congrArg _ ?_) ?_
    · rw [up3_eq]
      refine Finset.sum_congr rfl fun j _ => ?_
      refine congr (congrArg _ ?_) ?_
      · exact (blk0_1 (V7 m) c t r j).trans (in_up m c _ h j)
      · rw [row_val, ← es]
        exact (blk0_2 (V7 m) c t j _).trans ((signal (V6 m c) j b ⟨f.val, by omega⟩).trans (dif_pos f.isLt))
    · exact (blk0_4 (V7 m) c t _ q).trans ((wfeat (V6 m c) _ q).trans ((dif_pos f.isLt).trans (e5 _)))
  · rw [(blk0_4 (V7 m) c t f q).trans ((wfeat (V6 m c) f q).trans (dif_neg hf)), mul_zero]
  · exact (blk0_5 (V7 m) c t 0 q).trans ((bin (V6 m c) q).trans e1)

/-- The weights a point reads are the recurrent weights. -/
theorem in_rec (t : Fin cfg0.N) (q : Fin 1536) (k : Fin 512) : at2 (k0_pay6 (F := Ideal) (blk0 (V7 m) c 6 t)) k q = wRec m c q k := by
  refine (copy_weights _ k q).trans ((blk0_6 (V7 m) c t k q).trans ((wrec (V6 m c) k q).trans ?_))
  rw [V6_keep m c main_arg6 (by decide)]

/-- The bias a point reads is the recurrent bias. -/
theorem in_bias (t : Fin cfg0.N) (q : Fin 1536) : at2 (blk0 (V7 m) c 7 t) 0 q = bRec m c q := by
  refine (blk0_7 (V7 m) c t 0 q).trans ((brec (V6 m c) q).trans ?_)
  rw [V6_keep m c main_arg8 (by decide)]

/-- The loop of point `t` makes the states of its frames, from the state the point starts at. -/
theorem loop_hid (t : Fin cfg0.N) (hs : ∀ b k, at2 (stAt (V7 m) c t.val) b k = hid (wRec m c) (bRec m c) (pIn m c) (t.val * 128) b k)
    (k : ℕ) (hk : k ≤ 128) (hn : t.val * 128 + k ≤ 3300) (b : Fin 16) (j : Fin 512) :
    at2 (gruH (F := Ideal) (k0_pay6 (F := Ideal) (blk0 (V7 m) c 6 t)) (blk0 (V7 m) c 7 t)
      (k0_pay5 (F := Ideal) (blk0 (V7 m) c 0 t) (blk0 (V7 m) c 1 t) (blk0 (V7 m) c 2 t) (blk0 (V7 m) c 3 t) (blk0 (V7 m) c 4 t)
        (blk0 (V7 m) c 5 t)) (stAt (V7 m) c t.val) k) b j = hid (wRec m c) (bRec m c) (pIn m c) (t.val * 128 + k) b j :=
  gruH_hid _ _ _ _ (wRec m c) (bRec m c) (pIn m c) (t.val * 128) (in_rec m c t) (in_bias m c t) (fun r h b q => in_gates m c t r h b q)
    hs k hk hn b j

/-- The state before point `n` is the state after `128 n` steps, while that many frames are given. -/
theorem state_hid (n : ℕ) (hn : n * 128 ≤ 3300) (b : Fin 16) (k : Fin 512) :
    at2 (stAt (V7 m) c n) b k = hid (wRec m c) (bRec m c) (pIn m c) (n * 128) b k := by
  induction n generalizing b k with
  | zero => exact zero_state b k
  | succ n ih =>
    have ht : n < cfg0.N := by rw [show cfg0.N = 26 from N_0]; omega
    have e := stAt_succ (V7 m) c ⟨n, ht⟩
    simp only at e
    rw [e, add_mul, one_mul]
    exact (copy_state _ b k).trans (loop_hid m c ⟨n, ht⟩ (ih (by omega)) 128 le_rfl (by simp only; omega) b k)

/-- The array of states after the first launch: row `t` is the state after `t + 1` steps. -/
theorem states (t : Fin 3328) (ht : t.val < 3300) (b : Fin 16) (k : Fin 512) :
    at3 (aft0 m c (Proc.devRef .tc main_v142)) t b k = hid (wRec m c) (bRec m c) (pIn m c) (t.val + 1) b k := by
  have hN : t.val / 128 < cfg0.N := by rw [show cfg0.N = 26 from N_0]; omega
  have e : aft0 m c (Proc.devRef .tc main_v142) = (dat0 (V7 m) c).arrAt 8 cfg0.N :=
    Pipeline.afterRegion_arr (dat0 (V7 m) c) (V7 m c) launch0.win.arr_inj 8
  rw [e, arr0]
  refine (gruOut_at _ _ _ _ _ _ _ _ _ ⟨t.val % 128, by omega⟩ b k).trans ?_
  refine (loop_hid m c ⟨t.val / 128, hN⟩ (state_hid m c _ (by simp only; omega)) (t.val % 128 + 1) (by omega) (by simp only; omega) b k).trans ?_
  rw [show t.val / 128 * 128 + (t.val % 128 + 1) = t.val + 1 by omega]

/-- A buffer the first launch and the reshape leave alone is at the head's launch as it was at the first. -/
theorem W9_keep (r : Ref sig .tc) (h : r ∉ ([main_v142] : List (Ref sig .tc)) ∧ r ∉ hostOps1_W) :
    W9 m c (Proc.devRef .tc r) = V7 m c (Proc.devRef .tc r) := by
  rw [W9_eq]
  exact (V9_of m (outs m) c r h.2).trans (V8_of m (outs m) c r h.1)

/-- The result array after the kernel's run: the head of the states. -/
theorem result (b : Fin 16) (t : Fin 3300) (o : Fin 512) :
    at3 ((dat1 (W9 m) c).arrAt 5 cfg1.N) b t o
      = head (hid (wRec m c) (bRec m c) (pIn m c) (t.val + 1) b)
        (at2 (m ((c.tc : Thread nD τ).loc main_arg9))) (at1 (m ((c.tc : Thread nD τ).loc main_arg10)))
        (at2 (m ((c.tc : Thread nD τ).loc main_arg11))) (at1 (m ((c.tc : Thread nD τ).loc main_arg12))) o := by
  rw [arr1]
  refine (fcOut_at _ _ _ _ _ t o).trans ?_
  unfold headRow
  congr 1
  · funext k
    exact (blk1_0 (W9 m) c _ _ k).trans ((rows (aft0 m c) _ b k).trans (states m c _ t.isLt b k))
  · funext q k
    refine (blk1_1 (W9 m) c _ k q).trans ?_
    rw [W9_keep m c main_v138 (by decide), wfc1, V6_keep m c main_arg9 (by decide)]
  · funext q
    refine (blk1_2 (W9 m) c _ 0 q).trans ?_
    rw [W9_keep m c main_v140 (by decide), bfc1, V6_keep m c main_arg10 (by decide)]
  · funext p q
    refine (blk1_3 (W9 m) c _ q p).trans ?_
    rw [W9_keep m c main_v139 (by decide), wfc2, V6_keep m c main_arg11 (by decide)]
  · funext q
    refine (blk1_4 (W9 m) c _ 0 q).trans ?_
    rw [W9_keep m c main_v141 (by decide), bfc2, V6_keep m c main_arg12 (by decide)]

end Cert.KernelIdeal.Hand
end
-- ==== Proof.RefEntry.lean ====
/- What the reference's operations before its loop leave: the upsampled signal and the input projection. -/
module

public import proofs.«01_k».proof.Proof.Gen.ReferenceIdeal.Run
public import proofs.«01_k».proof.Proof.Upsample
public import Idealize.ShloMosaic.Lib.Pointwise

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value Cert.Upsample

set_option maxRecDepth 65536
set_option maxHeartbeats 1300000

variable (V : Valuation τ sig (Elt Ideal)) (g : Fin 16 → Fin 80 → ℕ → EReal)

/-- The signal, every sample repeated five times. -/
theorem rep1 (hg : ∀ b f (j : Fin 16), at3 (V (Proc.devRef .tc main_arg1)) b f j = g b f j.val)
    (b : Fin 16) (f : Fin 80) (q : Fin 80) :
    at3 (after hostOps0_1 V (Proc.devRef .tc main_v2)) b f q = g b f (q.val / 5) := by
  unfold at3 at *
  after_reads_simp
  pointwise
  exact hg _ _ _

/-- The same between five zeros on either side. -/
theorem pad1 (hc : V (Proc.devRef .tc main_c) = (constantI S_ 32 0#32))
    (hg : ∀ b f (j : Fin 80), at3 (V (Proc.devRef .tc main_v2)) b f j = g b f (j.val / 5))
    (b : Fin 16) (f : Fin 80) (q : Fin 90) :
    at3 (after hostOps0_2 V (Proc.devRef .tc main_v3)) b f q = rep 16 5 (g b f) q.val := by
  unfold at3
  after_reads_simp
  simp only [TRef.toBuf, TRef.ofBuf, cast_eq, hc]
  pointwise
  rw [zero_word]
  exact rep_of_dite (n := 16) (s := 5) _ rfl (fun j => at3 (V (Proc.devRef .tc main_v2)) b f j) (hg b f) _

/-- The first stage's weighted taps, repeated five times. -/
theorem taps1 (hk : ∀ d, tap (V (Proc.devRef .tc main_arg2)) d = k11)
    (hg : ∀ b f (j : Fin 90), at3 (V (Proc.devRef .tc main_v3)) b f j = rep 16 5 (g b f) j.val)
    (b : Fin 16) (f : Fin 80) (q : Fin 400) :
    at3 (after hostOps0_3 V (Proc.devRef .tc main_v72)) b f q = tapStage k11 16 5 (g b f) (q.val / 5) := by
  unfold at3 tap at *
  after_reads_simp
  pointwise
  simp only [hk, hg, tapStage, Finset.sum_range_succ, Finset.sum_range_zero, zero_add, add_zero, add_comm (q.val / 5)]

/-- The second stage's input between five zeros on either side. -/
theorem pad2 (hc : V (Proc.devRef .tc main_c_0) = (constantI S_ 32 0#32))
    (hg : ∀ b f (j : Fin 400), at3 (V (Proc.devRef .tc main_v72)) b f j = g b f (j.val / 5))
    (b : Fin 16) (f : Fin 80) (q : Fin 410) :
    at3 (after hostOps0_4 V (Proc.devRef .tc main_v73)) b f q = rep 80 5 (g b f) q.val := by
  unfold at3
  after_reads_simp
  simp only [TRef.toBuf, TRef.ofBuf, cast_eq, hc]
  pointwise
  rw [zero_word]
  exact rep_of_dite (n := 80) (s := 5) _ rfl (fun j => at3 (V (Proc.devRef .tc main_v72)) b f j) (hg b f) _

/-- The second stage's weighted taps, repeated eleven times. -/
theorem taps2 (hk : ∀ d, tap (V (Proc.devRef .tc main_arg3)) d = k11)
    (hg : ∀ b f (j : Fin 410), at3 (V (Proc.devRef .tc main_v73)) b f j = rep 80 5 (g b f) j.val)
    (b : Fin 16) (f : Fin 80) (q : Fin 4400) :
    at3 (after hostOps0_5 V (Proc.devRef .tc main_v142)) b f q = tapStage k11 80 5 (g b f) (q.val / 11) := by
  unfold at3 tap at *
  after_reads_simp
  pointwise
  simp only [hk, hg, tapStage, Finset.sum_range_succ, Finset.sum_range_zero, zero_add, add_zero, add_comm (q.val / 11)]

/-- The third stage's input between eleven zeros on either side. -/
theorem pad3 (hc : V (Proc.devRef .tc main_c_2) = (constantI S_ 32 0#32))
    (hg : ∀ b f (j : Fin 4400), at3 (V (Proc.devRef .tc main_v142)) b f j = g b f (j.val / 11))
    (b : Fin 16) (f : Fin 80) (q : Fin 4422) :
    at3 (after hostOps0_6 V (Proc.devRef .tc main_v143)) b f q = rep 400 11 (g b f) q.val := by
  unfold at3
  after_reads_simp
  simp only [TRef.toBuf, TRef.ofBuf, cast_eq, hc]
  pointwise
  rw [zero_word]
  exact rep_of_dite (n := 400) (s := 11) _ rfl (fun j => at3 (V (Proc.devRef .tc main_v142)) b f j) (hg b f) _

/-- The third stage's weighted taps from sample 550 on, frames before features. -/
theorem taps3 (hk : ∀ d, tap (V (Proc.devRef .tc main_arg4)) d = k23)
    (hg : ∀ b f (j : Fin 4422), at3 (V (Proc.devRef .tc main_v143)) b f j = rep 400 11 (g b f) j.val)
    (b : Fin 16) (t : Fin 3300) (f : Fin 80) :
    at3 (after hostOps0_7 V (Proc.devRef .tc main_v284)) b t f = tapStage k23 400 11 (g b f) (550 + t.val) := by
  unfold at3 tap at *
  after_reads_simp
  pointwise
  simp only [hk, hg, tapStage, Finset.sum_range_succ, Finset.sum_range_zero, zero_add, add_zero, ← add_assoc,
    add_comm (550 + t.val)]

/-- The input projection: the one-hot part, the upsampled part and the bias. -/
theorem proj (X : Fin 16 → Fin 3300 → Fin 80 → EReal)
    (hX : ∀ b t f, at3 (after hostOps0_7 V (Proc.devRef .tc main_v284)) b t f = X b t f)
    (t : Fin 3300) (b : Fin 16) (c : Fin 1536) :
    at3 (after hostOps0_7 V (Proc.devRef .tc main_v293_0)) t b c
      = (∑ k : Fin 512, at3 (V (Proc.devRef .tc main_v0)) b t k * at2 (V (Proc.devRef .tc main_arg5)) c ⟨k.val, by omega⟩)
        + (∑ f : Fin 80, X b t f * at2 (V (Proc.devRef .tc main_arg5)) c ⟨512 + f.val, by omega⟩)
        + at1 (V (Proc.devRef .tc main_arg7)) c := by
  have e : upto hostOps0_7 V 142 (Proc.devRef .tc main_v284) = after hostOps0_7 V (Proc.devRef .tc main_v284) := by
    simp only [upto, hostOps0_7, List.take_succ_cons, List.take_zero]
    after_reads_simp
  have e0 : upto hostOps0_7 V 142 (Proc.devRef .tc main_v0) = V (Proc.devRef .tc main_v0) := by
    simp only [upto, hostOps0_7, List.take_succ_cons, List.take_zero]
    after_reads_simp
  unfold at3 at2 at1 at *
  after_reads_simp
  simp only [id_eq]
  pointwise
  simp only [e0, e, hX]

/-- The one-hot row of a word. -/
theorem onehot (b : Fin 16) (t : Fin 3300) (k : Fin 512) :
    at3 (after hostOps0 V (Proc.devRef .tc main_v0)) b t k
      = if word2 (V (Proc.devRef .tc main_arg0)) b t = BitVec.ofNat 32 k.val then 1 else 0 := by
  unfold at3 word2
  after_reads_simp
  simp only [TRef.toBuf, TRef.ofBuf, cast_eq]
  pointwise
  exact word_eq _ _

end Cert.ReferenceIdeal.Hand
end
-- ==== Proof.RefLoop.lean ====
/- The reference's loop: after `n` trips the carried state is the recurrence's and the rows written are its states. -/
module

public import proofs.«01_k».proof.Proof.RefEntry
public import proofs.«01_k».proof.Proof.Spec
public import Idealize.ShloMosaic.Lib.DynamicIndex
public import Idealize.ShloMosaic.Lib.Pipeline.Value

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value Cert.Upsample Cert.Spec

set_option maxRecDepth 65536
set_option maxHeartbeats 1300000

variable (p : Fin 3300 → Fin 16 → Fin 1536 → EReal) (w : Fin 1536 → Fin 512 → EReal) (bh : Fin 1536 → EReal)

/-- A valuation before trip `n`. -/
structure Inv (V : Valuation τ sig (Elt Ideal)) (n : ℕ) : Prop where
  cnt : V (Proc.devRef .tc main_v293_3) = constantI S_ 32 (BitVec.ofNat 32 n)
  xp : ∀ t b c, at3 (V (Proc.devRef .tc main_v293_0)) t b c = p t b c
  whh : ∀ c k, at2 (V (Proc.devRef .tc main_v293_1)) c k = w c k
  bhh : ∀ c, at1 (V (Proc.devRef .tc main_v293_2)) c = bh c
  st : ∀ b j, at2 (V (Proc.devRef .tc main_v293_4)) b j = hid w bh p n b j
  ys : ∀ (t : Fin 3300), t.val < n → ∀ b j, at3 (V (Proc.devRef .tc main_v293_5)) t b j = hid w bh p (t.val + 1) b j

variable {p w bh}

/-- A small natural's word reads back as that natural. -/
theorem toInt_small {n : ℕ} (hn : n < 3300) : (BitVec.ofNat 32 n).toInt = n := by
  rw [BitVec.toInt_eq_toNat_of_lt] <;> simp only [BitVec.toNat_ofNat] <;> omega

/-- The word of one is one. -/
theorem one_word : (FloatOps.ofBits (F := Ideal) FTy.f32 0x3F800000#32 : EReal) = 1 := Ideal.ofBits_one_f32

/-- The starts of the trip's slices, read off the counter. -/
theorem starts {n : ℕ} (hn : n < 3300) (a : Fin 3) :
    BitVec.toInt ((![constantI S_ 32 (BitVec.ofNat 32 n), constantI S_ 32 0#32, constantI S_ 32 0#32] : Fin 3 → (S_.Idx → BitVec 32)) a (Shape.Idx.first h_S_))
      = ((![n, 0, 0] : Fin 3 → ℕ) a : Int) := by
  match a with
  | 0 => exact toInt_small hn
  | 1 => rfl
  | 2 => rfl

/-- The projection's row that a trip reads. -/
theorem row_read {V : Valuation τ sig (Elt Ideal)} {n : ℕ} (hn : n < 3300) (hv : Inv p w bh V n) (b : Fin 16) (c : Fin 1536) :
    at2 (res_main_while0b_v304 V) b c = p ⟨n, hn⟩ b c := by
  unfold at2 res_main_while0b_v304
  simp only [hv.cnt]
  refine (congrArg (fun y => shapeCast S16x1536 y shapeCasts_S1x16x1536_S16x1536 (ix2 b c))
    (Host.dynamicSlice_eq_extractStridedSlice (s := S3300x16x1536) S1x16x1536 _ _ (![n, 0, 0] : Fin 3 → ℕ) _
    ⟨rfl, fun a => by match a with
      | 0 => show n + 1 ≤ 3300; omega
      | 1 => exact Nat.le_refl _
      | 2 => exact Nat.le_refl _⟩ (starts hn))).trans ?_
  pointwise
  exact hv.xp ⟨n, hn⟩ b c

/-- The hidden part that a trip adds. -/
theorem pre_read {V : Valuation τ sig (Elt Ideal)} {n : ℕ} (hv : Inv p w bh V n) (b : Fin 16) (c : Fin 1536) :
    at2 (res_main_while0b_v309 V) b c = pre w bh (hid w bh p n) b c := by
  have h2 := hv.whh; have h3 := hv.bhh; have h4 := hv.st
  unfold at2 at1 at *
  unfold res_main_while0b_v309
  pointwise
  simp only [h2, h3, h4, pre]

/-- The state a trip leaves is the recurrence's next. -/
theorem state_next {V : Valuation τ sig (Elt Ideal)} {n : ℕ} (hn : n < 3300) (hv : Inv p w bh V n) (b : Fin 16) (j : Fin 512) :
    at2 (res_main_while0b_v337 V) b j = hid w bh p (n + 1) b j := by
  rw [hid_succ _ _ _ _ hn]
  have h1 := row_read hn hv; have h2 := pre_read hv; have h4 := hv.st
  unfold at2 at *
  unfold res_main_while0b_v337 res_main_while0b_v329
  pointwise
  simp only [h1, h2, h4, cell, Ideal.logistic]

/-- A row written into a stack of rows, at an index. -/
theorem put_row {n : ℕ} (hn : n < 3300) (x : S3300x16x512.Idx → EReal) (u : S1x16x512.Idx → EReal) (st : Fin 3 → Int)
    (hs : ∀ a, st a = ((![n, 0, 0] : Fin 3 → ℕ) a : Int)) (h : S3300x16x512.Slices (fun _ => 0) S1x16x512)
    (t : Fin 3300) (b : Fin 16) (j : Fin 512) :
    Host.dynamicUpdateSlice x u st h (ix3 t b j) = if t.val = n then u (ix3 0 b j) else x (ix3 t b j) := by
  rw [Host.dynamicUpdateSlice_eq_updateSlice x u st h (![n, 0, 0] : Fin 3 → ℕ)
    (fun a => by
      rw [hs a]
      match a with
      | 0 => show (min (max (n : Int) 0) ((3300 - 1 : ℕ) : Int)).toNat = n; omega
      | 1 => rfl
      | 2 => rfl)
    ⟨rfl, fun a => by match a with
      | 0 => show n + 1 ≤ 3300; omega
      | 1 => exact Nat.le_refl _
      | 2 => exact Nat.le_refl _⟩]
  pointwise
  by_cases e : t.val = n
  · rw [dif_pos ⟨by omega, by omega⟩, if_pos e]
    exact congrArg (fun a => u (ix3 a b j)) (Fin.ext (by show t.val - n = 0; omega))
  · rw [dif_neg (by omega), if_neg e]

/-- A trip keeps the invariant. -/
theorem Inv.step {V : Valuation τ sig (Elt Ideal)} {n : ℕ} (hn : n < 3300) (hv : Inv p w bh V n) : Inv p w bh (STEP V) (n + 1) where
  cnt := by
    rw [STEP_main_v293_3]
    unfold step_main_v293_3
    rw [hv.cnt]
    funext i
    show BitVec.ofNat 32 n + 1#32 = BitVec.ofNat 32 (n + 1)
    simp only [BitVec.ofNat_add]
  xp := by rw [STEP_main_v293_0]; exact hv.xp
  whh := by rw [STEP_main_v293_1]; exact hv.whh
  bhh := by rw [STEP_main_v293_2]; exact hv.bhh
  st := by rw [STEP_main_v293_4]; exact state_next hn hv
  ys := by
    intro t ht b j
    rw [STEP_main_v293_5]
    unfold step_main_v293_5
    have hs := state_next hn hv b j
    have hy := hv.ys t
    unfold at3 at2 at *
    simp only [hv.cnt, id_eq]
    refine (put_row hn _ _ _ (starts hn) _ t b j).trans ?_
    pointwise
    split
    · next e => rw [hs, e]
    · next e => exact hy (by omega) b j

/-- Every trip's. -/
theorem Inv.iter {V : Valuation τ sig (Elt Ideal)} (hv : Inv p w bh V 0) : ∀ n, n ≤ 3300 → Inv p w bh (STEP^[n] V) n
  | 0, _ => hv
  | n + 1, hn => by
    rw [Function.iterate_succ_apply']
    exact (Inv.iter hv n (by omega)).step (by omega)

variable (m : (ℓ : Loc nD τ sig) → Buf (Elt Ideal) ℓ) (c : Dev nD)

/-- What the loop starts from. -/
theorem entry (h2 : ∀ d, tap (m ((c.tc : Thread nD τ).loc main_arg2)) d = k11) (h3 : ∀ d, tap (m ((c.tc : Thread nD τ).loc main_arg3)) d = k11)
    (h4 : ∀ d, tap (m ((c.tc : Thread nD τ).loc main_arg4)) d = k23) :
    Inv (Spec.proj (m ((c.tc : Thread nD τ).loc main_arg0)) (m ((c.tc : Thread nD τ).loc main_arg1)) (m ((c.tc : Thread nD τ).loc main_arg5))
        (m ((c.tc : Thread nD τ).loc main_arg7)))
      (at2 (m ((c.tc : Thread nD τ).loc main_arg6))) (at1 (m ((c.tc : Thread nD τ).loc main_arg8))) (entryContents preI m c) 0 := by
  have A1 := rep1 (after hostOps0 (fun b => m (c, b))) (Spec.row (m ((c.tc : Thread nD τ).loc main_arg1))) (fun b f j => by
    rw [row_val]; after_reads_simp)
  have A2 := pad1 (after hostOps0_1 (after hostOps0 (fun b => m (c, b)))) _ (by after_reads_simp) A1
  have A3 := taps1 (after hostOps0_2 (after hostOps0_1 (after hostOps0 (fun b => m (c, b))))) _ (fun d => by after_reads_simp; exact h2 d) A2
  have A4 := pad2 (after hostOps0_3 (after hostOps0_2 (after hostOps0_1 (after hostOps0 (fun b => m (c, b)))))) _ (by after_reads_simp) A3
  have A5 := taps2 (after hostOps0_4 (after hostOps0_3 (after hostOps0_2 (after hostOps0_1 (after hostOps0 (fun b => m (c, b))))))) _
    (fun d => by after_reads_simp; exact h3 d) A4
  have A6 := pad3 (after hostOps0_5 (after hostOps0_4 (after hostOps0_3 (after hostOps0_2 (after hostOps0_1 (after hostOps0 (fun b => m (c, b)))))))) _
    (by after_reads_simp) A5
  have A7 := taps3 (after hostOps0_6 (after hostOps0_5 (after hostOps0_4 (after hostOps0_3 (after hostOps0_2 (after hostOps0_1 (after hostOps0 (fun b => m (c, b))))))))) _
    (fun d => by after_reads_simp; exact h4 d) A6
  have A8 := proj _ _ A7
  constructor
  · simp only [entryContents, afterL_cons, afterL_nil]; after_reads_simp; rfl
  · intro t b j
    simp only [entryContents, afterL_cons, afterL_nil]
    refine (A8 t b j).trans ?_
    have B0 : ∀ b t k, at3 (after hostOps0_6 (after hostOps0_5 (after hostOps0_4 (after hostOps0_3 (after hostOps0_2 (after hostOps0_1
        (after hostOps0 (fun b => m (c, b)))))))) (Proc.devRef .tc main_v0)) b t k
        = if word2 (m ((c.tc : Thread nD τ).loc main_arg0)) b t = BitVec.ofNat 32 k.val then 1 else 0 := fun b t k => by
      refine Eq.trans ?_ (onehot (fun b => m (c, b)) b t k)
      refine congrArg (fun x => at3 x b t k) ?_
      after_reads_simp
    have B5 : after hostOps0_6 (after hostOps0_5 (after hostOps0_4 (after hostOps0_3 (after hostOps0_2 (after hostOps0_1
        (after hostOps0 (fun b => m (c, b)))))))) (Proc.devRef .tc main_arg5) = m ((c.tc : Thread nD τ).loc main_arg5) := by
      after_reads_simp
    have B7 : after hostOps0_6 (after hostOps0_5 (after hostOps0_4 (after hostOps0_3 (after hostOps0_2 (after hostOps0_1
        (after hostOps0 (fun b => m (c, b)))))))) (Proc.devRef .tc main_arg7) = m ((c.tc : Thread nD τ).loc main_arg7) := by
      after_reads_simp
    simp only [B0, B5, B7]
    rfl
  · intro a k
    simp only [entryContents, afterL_cons, afterL_nil]; after_reads_simp; rfl
  · intro a
    simp only [entryContents, afterL_cons, afterL_nil]; after_reads_simp; rfl
  · intro b j
    unfold at2
    simp only [entryContents, afterL_cons, afterL_nil]
    after_reads_simp
    simp only [id_eq]
    pointwise
    rfl
  · intro t ht; exact absurd ht (Nat.not_lt_zero _)

/-- The reference's result at an index. -/
theorem result (h2 : ∀ d, tap (m ((c.tc : Thread nD τ).loc main_arg2)) d = k11) (h3 : ∀ d, tap (m ((c.tc : Thread nD τ).loc main_arg3)) d = k11)
    (h4 : ∀ d, tap (m ((c.tc : Thread nD τ).loc main_arg4)) d = k23) (b : Fin 16) (t : Fin 3300) (o : Fin 512) :
    at3 (out_main_v303 (STEP^[3300] (entryContents preI m c))) b t o
      = head (hid (at2 (m ((c.tc : Thread nD τ).loc main_arg6))) (at1 (m ((c.tc : Thread nD τ).loc main_arg8)))
          (Spec.proj (m ((c.tc : Thread nD τ).loc main_arg0)) (m ((c.tc : Thread nD τ).loc main_arg1)) (m ((c.tc : Thread nD τ).loc main_arg5))
            (m ((c.tc : Thread nD τ).loc main_arg7))) (t.val + 1) b)
        (at2 (m ((c.tc : Thread nD τ).loc main_arg9))) (at1 (m ((c.tc : Thread nD τ).loc main_arg10)))
        (at2 (m ((c.tc : Thread nD τ).loc main_arg11))) (at1 (m ((c.tc : Thread nD τ).loc main_arg12))) o := by
  have hv := (entry m c h2 h3 h4).iter 3300 (Nat.le_refl _)
  have hy := fun t b j => hv.ys t t.isLt b j
  have e9 := fun a k => congrArg (fun x => at2 (a := 512) (b := 512) x a k) (iter_main_arg9 m c 3300)
  have e10 := fun a => congrArg (fun x => at1 (a := 512) x a) (iter_main_arg10 m c 3300)
  have e11 := fun a k => congrArg (fun x => at2 (a := 512) (b := 512) x a k) (iter_main_arg11 m c 3300)
  have e12 := fun a => congrArg (fun x => at1 (a := 512) x a) (iter_main_arg12 m c 3300)
  unfold head
  simp only [← e9, ← e10, ← e11, ← e12]
  unfold at3 at2 at1 at *
  unfold out_main_v303
  pointwise
  simp only [hy]

end Cert.ReferenceIdeal.Hand
end
-- ==== Proof.Value.lean ====
/- The value claim: where the filters average, the kernel's result is the reference's. -/
module

public import proofs.«01_k».proof.Proof.Averaging
public import proofs.«01_k».proof.Proof.KerMain
public import proofs.«01_k».proof.Proof.RefLoop
public import proofs.«01_k».proof.Proof.Gen.ReferenceIdeal.Run

@[expose] public section

noncomputable section

namespace Cert.Proof

open Idealize.ShloMosaic Idealize.SL.Sem Cert.Upsample Cert.Spec

/-- The two programs, launched with the same arguments, leave the same result. -/
theorem value : Cert.algebraic_KernelIdeal_ReferenceIdeal_pre_averaging (hPre_averaging := Cert.Pre_averaging.facts) := by
  intro m ρ m' ρ' hp ha
  refine ⟨fun c => (Cert.KernelIdeal.Hand.dat1 (Cert.KernelIdeal.Hand.W9 m) c).arrAt 5 Cert.KernelIdeal.cfg1.N, ?_, ?_⟩
  · refine (θ_run Cert.KernelIdeal.defs _ _).mono (fun r h c => ?_) (Cert.KernelIdeal.Hand.run_result (F := Ideal) m ρ)
    obtain ⟨a0, a1, a2, a3, a4, a5, a6, a7, a8, a9, a10, a11, a12, o⟩ := h.1 c
    exact ⟨o, a0, a1, a2, a3, a4, a5, a6, a7, a8, a9, a10, a11, a12⟩
  · refine (θ_run Cert.ReferenceIdeal.defs _ _).mono (fun r h c => ⟨(h c).1.trans ?_, (h c).2⟩)
      (Cert.ReferenceIdeal.Value.run (F := Ideal) m' ρ')
    obtain ⟨h2, h3, h4⟩ := Cert.Pre_averaging.taps m hp c
    obtain ⟨a0, a1, a2, a3, a4, a5, a6, a7, a8, a9, a10, a11, a12⟩ := ha c
    have e := fun (b : Fin 16) (t : Fin 3300) (o : Fin 512) =>
      Cert.ReferenceIdeal.Hand.result m' c (fun d => (congrArg (fun x => tap (a := 11) x d) a2).trans (h2 d))
        (fun d => (congrArg (fun x => tap (a := 11) x d) a3).trans (h3 d))
        (fun d => (congrArg (fun x => tap (a := 23) x d) a4).trans (h4 d)) b t o
    rw [a0, a1, a5, a6, a7, a8, a9, a10, a11, a12] at e
    have key := fun b t o => (e b t o).trans (Cert.KernelIdeal.Hand.result m c b t o).symm
    refine funext fun (i : (⟨3, ![16, 3300, 512]⟩ : Shape).Idx) => ?_
    rw [eq_ix3 i]
    exact key (i 0) (i 1) (i 2)

end Cert.Proof
end
-- ==== Proof.lean ====
/- The certificate's proof: the three frames, the idealization's claim and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Cert.Pre_averaging.facts,
  frame_kernel, frame_ideal, fun m ρ _ => frame_ideal m ρ trivial, frame_reference, fun m ρ _ => frame_reference m ρ trivial, trivial,
  value⟩

end Cert.Proof

end
